-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_products [hPre_finite_products : Cert.Pre_finite_products.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_products.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite_products.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_products [hPre_finite_products : Cert.Pre_finite_products.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_products.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite_products.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_products [hKernel3Ideal : Cert.Kernel3Ideal.Facts] [hPre_finite_products : Cert.Pre_finite_products.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_products m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_products [hReference3Ideal : Cert.Reference3Ideal.Facts] [hPre_finite_products : Cert.Pre_finite_products.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_products m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_products [hKernel3Ideal : Cert.Kernel3Ideal.Facts] [hReference3Ideal : Cert.Reference3Ideal.Facts] [hPre_finite_products : Cert.Pre_finite_products.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_products m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v66_0)) (v1 : (c : Dev Cert.Kernel4Ideal.nD) → Buf (Elt Ideal) ((c.tc : Thread Cert.Kernel4Ideal.nD Cert.Kernel4Ideal.τ).loc Cert.Kernel4Ideal.main_v66_3)) (v2 : (c : Dev Cert.Kernel4Ideal.nD) → Buf (Elt Ideal) ((c.tc : Thread Cert.Kernel4Ideal.nD Cert.Kernel4Ideal.τ).loc Cert.Kernel4Ideal.main_v66_4)) (v3 : (c : Dev Cert.Kernel4Ideal.nD) → Buf (Elt Ideal) ((c.tc : Thread Cert.Kernel4Ideal.nD Cert.Kernel4Ideal.τ).loc Cert.Kernel4Ideal.main_v66_5)) (v4 : (c : Dev Cert.Kernel4Ideal.nD) → Buf (Elt Ideal) ((c.tc : Thread Cert.Kernel4Ideal.nD Cert.Kernel4Ideal.τ).loc Cert.Kernel4Ideal.main_v66_6)) (v5 : (c : Dev Cert.Kernel4Ideal.nD) → Buf (Elt Ideal) ((c.tc : Thread Cert.Kernel4Ideal.nD Cert.Kernel4Ideal.τ).loc Cert.Kernel4Ideal.main_v66_7)) (v6 : (c : Dev Cert.Kernel4Ideal.nD) → Buf (Elt Ideal) ((c.tc : Thread Cert.Kernel4Ideal.nD Cert.Kernel4Ideal.τ).loc Cert.Kernel4Ideal.main_v66_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v66_0) = v0 c
          ∧ r.2.mem ((c.tc : Thread Cert.Kernel4Ideal.nD Cert.Kernel4Ideal.τ).loc Cert.Kernel4Ideal.main_v66_3) = v1 c
          ∧ r.2.mem ((c.tc : Thread Cert.Kernel4Ideal.nD Cert.Kernel4Ideal.τ).loc Cert.Kernel4Ideal.main_v66_4) = v2 c
          ∧ r.2.mem ((c.tc : Thread Cert.Kernel4Ideal.nD Cert.Kernel4Ideal.τ).loc Cert.Kernel4Ideal.main_v66_5) = v3 c
          ∧ r.2.mem ((c.tc : Thread Cert.Kernel4Ideal.nD Cert.Kernel4Ideal.τ).loc Cert.Kernel4Ideal.main_v66_6) = v4 c
          ∧ r.2.mem ((c.tc : Thread Cert.Kernel4Ideal.nD Cert.Kernel4Ideal.τ).loc Cert.Kernel4Ideal.main_v66_7) = v5 c
          ∧ r.2.mem ((c.tc : Thread Cert.Kernel4Ideal.nD Cert.Kernel4Ideal.τ).loc Cert.Kernel4Ideal.main_v66_8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v32) = v4 c
          ∧ r.2.mem ((c.tc : Thread Cert.Reference4Ideal.nD Cert.Reference4Ideal.τ).loc Cert.Reference4Ideal.main_v33) = v5 c
          ∧ r.2.mem ((c.tc : Thread Cert.Reference4Ideal.nD Cert.Reference4Ideal.τ).loc Cert.Reference4Ideal.main_v34) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v41) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_finite_products : Cert.Pre_finite_products.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_products (hKernel3Ideal := hKernel3Ideal) (hPre_finite_products := hPre_finite_products)
    ∧ quiescent_Reference3Ideal (hReference3Ideal := hReference3Ideal)
    ∧ quiescent_Reference3Ideal_pre_finite_products (hReference3Ideal := hReference3Ideal) (hPre_finite_products := hPre_finite_products)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_products (hKernel3Ideal := hKernel3Ideal) (hReference3Ideal := hReference3Ideal) (hPre_finite_products := hPre_finite_products)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_products.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x512 .f32) (main_arg1 : FVec F S4096x128 .f32) (main_arg2 : FVec F S4096x128 .f32) : IVec S4096x512 1 × IVec S4096x128 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  (main_v2, main_v5)
-- ==== Pre_finite_scores.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x512 .f32) (main_arg1 : FVec F S4096x128 .f32) (main_arg2 : FVec F S4096x128 .f32) (main_arg3 : FVec F S4096x512 .f32) : IVec S4096x512 1 × IVec S4096x128 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  (main_v2, main_v5)
-- ==== Kernel.lean ====
abbrev S4096x512 : Shape := ⟨2, ![4096, 512]⟩
abbrev S4096x128 : Shape := ⟨2, ![4096, 128]⟩
abbrev S_ : Shape := ⟨0, ![]⟩
abbrev S1x128 : Shape := ⟨2, ![1, 128]⟩
abbrev S4096x64 : Shape := ⟨2, ![4096, 64]⟩
abbrev S1x4096x128 : Shape := ⟨3, ![1, 4096, 128]⟩
abbrev S4x4096x128 : Shape := ⟨3, ![4, 4096, 128]⟩
abbrev S1024x128 : Shape := ⟨2, ![1024, 128]⟩
abbrev S1x2048x128 : Shape := ⟨3, ![1, 2048, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 120
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S1x128, .i32⟩
  | .hbm, ⟨9, _⟩ => ⟨S_, .i32⟩
  | .hbm, ⟨10, _⟩ => ⟨S1x128, .i32⟩
  | .hbm, ⟨11, _⟩ => ⟨S1x128, .i1⟩
  | .hbm, ⟨12, _⟩ => ⟨S_, .f32⟩
  | .hbm, ⟨13, _⟩ => ⟨S_, .f32⟩
  | .hbm, ⟨14, _⟩ => ⟨S4096x128, .i1⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S_, .f32⟩
  | .hbm, ⟨19, _⟩ => ⟨S4096x128, .i1⟩
  | .hbm, ⟨20, _⟩ => ⟨S4096x128, .f32⟩
  | .hbm, ⟨21, _⟩ => ⟨S4096x128, .f32⟩
  | .hbm, ⟨22, _⟩ => ⟨S4096x128, .bf16⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x128, .bf16⟩
  | .hbm, ⟨27, _⟩ => ⟨S4096x64, .f32⟩
  | .hbm, ⟨28, _⟩ => ⟨S4096x64, .f32⟩
  | .hbm, ⟨29, _⟩ => ⟨S4096x128, .f32⟩
  | .hbm, ⟨30, _⟩ => ⟨S4096x128, .bf16⟩
  | .hbm, ⟨31, _⟩ => ⟨S4096x128, .bf16⟩
  | .hbm, ⟨32, _⟩ => ⟨S1x4096x128, .bf16⟩
  | .hbm, ⟨33, _⟩ => ⟨S1x4096x128, .bf16⟩
  | .hbm, ⟨34, _⟩ => ⟨S1x4096x128, .bf16⟩
  | .hbm, ⟨35, _⟩ => ⟨S1x4096x128, .bf16⟩
  | .hbm, ⟨36, _⟩ => ⟨S4x4096x128, .bf16⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i1⟩
  | .hbm, ⟨41, _⟩ => ⟨S_, .f32⟩
  | .hbm, ⟨42, _⟩ => ⟨S_, .f32⟩
  | .hbm, ⟨43, _⟩ => ⟨S4096x128, .i1⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .i1⟩
  | .hbm, ⟨49, _⟩ => ⟨S4096x128, .f32⟩
  | .hbm, ⟨50, _⟩ => ⟨S4096x128, .f32⟩
  | .hbm, ⟨51, _⟩ => ⟨S4096x128, .bf16⟩
  | .hbm, ⟨52, _⟩ => ⟨S4096x64, .f32⟩
  | .hbm, ⟨53, _⟩ => ⟨S4096x64, .f32⟩
  | .hbm, ⟨54, _⟩ => ⟨S4096x128, .f32⟩
  | .hbm, ⟨55, _⟩ => ⟨S4096x128, .bf16⟩
  | .hbm, ⟨56, _⟩ => ⟨S4096x64, .f32⟩
  | .hbm, ⟨57, _⟩ => ⟨S4096x64, .f32⟩
  | .hbm, ⟨58, _⟩ => ⟨S4096x128, .f32⟩
  | .hbm, ⟨59, _⟩ => ⟨S4096x128, .bf16⟩
  | .hbm, ⟨60, _⟩ => ⟨S4096x128, .bf16⟩
  | .hbm, ⟨61, _⟩ => ⟨S1x4096x128, .bf16⟩
  | .hbm, ⟨62, _⟩ => ⟨S1x4096x128, .bf16⟩
  | .hbm, ⟨63, _⟩ => ⟨S1x4096x128, .bf16⟩
  | .hbm, ⟨64, _⟩ => ⟨S1x4096x128, .bf16⟩
  | .hbm, ⟨65, _⟩ => ⟨S4x4096x128, .bf16⟩
  | .hbm, ⟨66, _⟩ => ⟨S4096x512, .f32⟩
  | .hbm, ⟨67, _⟩ => ⟨S4x4096x128, .f32⟩
  | .hbm, ⟨68, _⟩ => ⟨S4x4096x128, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S1x128, .i32⟩
  | .hbm, ⟨73, _⟩ => ⟨S_, .i32⟩
  | .hbm, ⟨74, _⟩ => ⟨S1x128, .i32⟩
  | .hbm, ⟨75, _⟩ => ⟨S1x128, .i1⟩
  | .hbm, ⟨76, _⟩ => ⟨S1x4096x128, .f32⟩
  | .hbm, ⟨77, _⟩ => ⟨S4096x128, .f32⟩
  | .hbm, ⟨78, _⟩ => ⟨S1x4096x128, .f32⟩
  | .hbm, ⟨79, _⟩ => ⟨S4096x128, .f32⟩
  | .hbm, ⟨80, _⟩ => ⟨S4096x128, .f32⟩
  | .hbm, ⟨81, _⟩ => ⟨S1x4096x128, .f32⟩
  | .hbm, ⟨82, _⟩ => ⟨S4096x128, .f32⟩
  | .hbm, ⟨83, _⟩ => ⟨S1x4096x128, .f32⟩
  | .hbm, ⟨84, _⟩ => ⟨S4096x128, .f32⟩
  | .hbm, ⟨85, _⟩ => ⟨S4096x128, .f32⟩
  | .hbm, ⟨86, _⟩ => ⟨S4096x64, .f32⟩
  | .hbm, ⟨87, _⟩ => ⟨S4096x64, .f32⟩
  | .hbm, ⟨88, _⟩ => ⟨S4096x128, .f32⟩
  | .hbm, ⟨89, _⟩ => ⟨S4096x128, .f32⟩
  | .hbm, ⟨90, _⟩ => ⟨S4096x64, .f32⟩
  | .hbm, ⟨91, _⟩ => ⟨S4096x64, .f32⟩
  | .hbm, ⟨92, _⟩ => ⟨S4096x128, .f32⟩
  | .hbm, ⟨93, _⟩ => ⟨S4096x128, .f32⟩
  | .hbm, ⟨94, _⟩ => ⟨S4096x128, .i1⟩
  | .hbm, ⟨95, _⟩ => ⟨S4096x128, .f32⟩
  | .hbm, ⟨96, _⟩ => ⟨S1x128, .i32⟩
  | .hbm, ⟨97, _⟩ => ⟨S_, .i32⟩
  | .hbm, ⟨98, _⟩ => ⟨S1x128, .i32⟩
  | .hbm, ⟨99, _⟩ => ⟨S1x128, .i1⟩
  | .hbm, ⟨100, _⟩ => ⟨S1x4096x128, .f32⟩
  | .hbm, ⟨101, _⟩ => ⟨S4096x128, .f32⟩
  | .hbm, ⟨102, _⟩ => ⟨S1x4096x128, .f32⟩
  | .hbm, ⟨103, _⟩ => ⟨S4096x128, .f32⟩
  | .hbm, ⟨104, _⟩ => ⟨S4096x128, .f32⟩
  | .hbm, ⟨105, _⟩ => ⟨S1x4096x128, .f32⟩
  | .hbm, ⟨106, _⟩ => ⟨S4096x128, .f32⟩
  | .hbm, ⟨107, _⟩ => ⟨S1x4096x128, .f32⟩
  | .hbm, ⟨108, _⟩ => ⟨S4096x128, .f32⟩
  | .hbm, ⟨109, _⟩ => ⟨S4096x128, .f32⟩
  | .hbm, ⟨110, _⟩ => ⟨S4096x64, .f32⟩
  | .hbm, ⟨111, _⟩ => ⟨S4096x64, .f32⟩
  | .hbm, ⟨112, _⟩ => ⟨S4096x128, .f32⟩
  | .hbm, ⟨113, _⟩ => ⟨S4096x128, .f32⟩
  | .hbm, ⟨114, _⟩ => ⟨S4096x64, .f32⟩
  | .hbm, ⟨115, _⟩ => ⟨S4096x64, .f32⟩
  | .hbm, ⟨116, _⟩ => ⟨S4096x128, .f32⟩
  | .hbm, ⟨117, _⟩ => ⟨S4096x128, .f32⟩
  | .hbm, ⟨118, _⟩ => ⟨S4096x128, .i1⟩
  | .hbm, ⟨119, _⟩ => ⟨S4096x128, .f32⟩
  | .local _ .vmem, ⟨0, _⟩ => ⟨S1024x128, .bf16⟩
  | .local _ .vmem, ⟨1, _⟩ => ⟨S1024x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v7 : Ref sig .tc := ⟨.hbm, 21, rfl⟩
abbrev main_v8 : Ref sig .tc := ⟨.hbm, 22, rfl⟩
abbrev main_call2_v0 : Ref sig .tc := ⟨.hbm, 23, rfl⟩
abbrev main_call2_v1 : Ref sig .tc := ⟨.hbm, 24, rfl⟩
abbrev main_v9 : Ref sig .tc := ⟨.hbm, 25, rfl⟩
abbrev main_v10 : Ref sig .tc := ⟨.hbm, 26, rfl⟩
abbrev main_call3_v0 : Ref sig .tc := ⟨.hbm, 27, rfl⟩
abbrev main_call3_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_v22 : Ref sig .tc := ⟨.hbm, 45, rfl⟩
abbrev main_cst_4 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_v23 : Ref sig .tc := ⟨.hbm, 50, rfl⟩
abbrev main_v24 : Ref sig .tc := ⟨.hbm, 51, rfl⟩
abbrev main_call6_v0 : Ref sig .tc := ⟨.hbm, 52, rfl⟩
abbrev main_call6_v1 : Ref sig .tc := ⟨.hbm, 53, rfl⟩
abbrev main_v25 : Ref sig .tc := ⟨.hbm, 54, rfl⟩
abbrev main_v26 : Ref sig .tc := ⟨.hbm, 55, rfl⟩
abbrev main_call7_v0 : Ref sig .tc := ⟨.hbm, 56, rfl⟩
abbrev main_call7_v1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35_0 : Ref sig .tc := ⟨.hbm, 66, rfl⟩
abbrev main_v35_1 : Ref sig .tc := ⟨.hbm, 67, rfl⟩
abbrev main_v35_2 : Ref sig .tc := ⟨.hbm, 68, rfl⟩
abbrev main_cst_5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call8_v0 : Ref sig .tc := ⟨.hbm, 86, rfl⟩
abbrev main_call8_v1 : Ref sig .tc := ⟨.hbm, 87, rfl⟩
abbrev main_v51 : Ref sig .tc := ⟨.hbm, 88, rfl⟩
abbrev main_v52 : Ref sig .tc := ⟨.hbm, 89, rfl⟩
abbrev main_call9_v0 : Ref sig .tc := ⟨.hbm, 90, rfl⟩
abbrev main_call9_v1 : Ref sig .tc := ⟨.hbm, 91, rfl⟩
abbrev main_v53 : Ref sig .tc := ⟨.hbm, 92, rfl⟩
abbrev main_v54 : Ref sig .tc := ⟨.hbm, 93, rfl⟩
abbrev main_call10_v0 : Ref sig .tc := ⟨.hbm, 94, rfl⟩
abbrev main_v55 : Ref sig .tc := ⟨.hbm, 95, rfl⟩
abbrev main_v56 : Ref sig .tc := ⟨.hbm, 96, rfl⟩
abbrev main_c_7 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call11_v0 : Ref sig .tc := ⟨.hbm, 110, rfl⟩
abbrev main_call11_v1 : Ref sig .tc := ⟨.hbm, 111, rfl⟩
abbrev main_v69 : Ref sig .tc := ⟨.hbm, 112, rfl⟩
abbrev main_v70 : Ref sig .tc := ⟨.hbm, 113, rfl⟩
abbrev main_call12_v0 : Ref sig .tc := ⟨.hbm, 114, rfl⟩
abbrev main_call12_v1 : Ref sig .tc := ⟨.hbm, 115, rfl⟩
abbrev main_v71 : Ref sig .tc := ⟨.hbm, 116, rfl⟩
abbrev main_v72 : Ref sig .tc := ⟨.hbm, 117, rfl⟩
abbrev main_call13_v0 : Ref sig .tc := ⟨.hbm, 118, rfl⟩
abbrev main_v73 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg2 : BitVec 32 := BitVec.ofNat 32 (i 2).val
  let c0_i32 : BitVec 32 := 0#32
  let v109 : BitVec 1 := Scalar.cmpi .eq arg2 c0_i32
  let v110 : BitVec 32 := Scalar.extui v109
  let c0_i32_42 : BitVec 32 := 0#32
  let v111 : BitVec 1 := Scalar.cmpi .ne v110 c0_i32_42
  v111

def k0_cond2 (i : grid0.Coords) : BitVec 1 :=
  let arg2 : BitVec 32 := BitVec.ofNat 32 (i 2).val
  let c0_i32_43 : BitVec 32 := 0#32
  let v112 : BitVec 1 := Scalar.cmpi .sgt arg2 c0_i32_43
  let v113 : BitVec 32 := Scalar.extui v112
  let c0_i32_44 : BitVec 32 := 0#32
  let v114 : BitVec 1 := Scalar.cmpi .ne v113 c0_i32_44
  v114

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let v18 : BitVec 32 := Scalar.addi v17 c0_i32_5
  let c0_i32_6 : BitVec 32 := 0#32
  let c0_i32_7 : BitVec 32 := 0#32
  ![v18.toNat, arg0.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![v18.toNat, arg0.toNat, c0_i32_6.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let v18 : BitVec 32 := Scalar.addi v17 c0_i32_5
  let c0_i32_6 : BitVec 32 := 0#32
  let c0_i32_7 : BitVec 32 := 0#32
  ![v18.toNat, arg0.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![v18.toNat, arg0.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4096x512 : Shape := ⟨2, ![4096, 512]⟩
abbrev S4096x128 : Shape := ⟨2, ![4096, 128]⟩
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S2x2048x2x4x64, .f32⟩
  | .hbm, ⟨5, _⟩ => ⟨S2x2048x2x64, .f32⟩
  | .hbm, ⟨6, _⟩ => ⟨S2x2048x2x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048x2048, .f32⟩
  | .hbm, ⟨11, _⟩ => ⟨S2x2x4x2048x2048, .f32⟩
  | .hbm, ⟨12, _⟩ => ⟨S_, .f32⟩
  | .hbm, ⟨13, _⟩ => ⟨S2x2x4x2048, .f32⟩
  | .hbm, ⟨14, _⟩ => ⟨S2x2x4x2048x1, .f32⟩
  | .hbm, ⟨15, _⟩ => ⟨S2x2x4x2048x2048, .f32⟩
  | .hbm, ⟨16, _⟩ => ⟨S2x2x4x2048x2048, .i1⟩
  | .hbm, ⟨17, _⟩ => ⟨S2x2x4x2048x2048, .f32⟩
  | .hbm, ⟨18, _⟩ => ⟨S_, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .f32⟩
  | .hbm, ⟨23, _⟩ => ⟨S_, .f32⟩
  | .hbm, ⟨24, _⟩ => ⟨S2x2x4x2048, .f32⟩
  | .hbm, ⟨25, _⟩ => ⟨S2x2x4x2048, .i1⟩
  | .hbm, ⟨26, _⟩ => ⟨S_, .f32⟩
  | .hbm, ⟨27, _⟩ => ⟨S2x2x4x2048, .f32⟩
  | .hbm, ⟨28, _⟩ => ⟨S2x2x4x2048, .i1⟩
  | .hbm, ⟨29, _⟩ => ⟨S_, .f32⟩
  | .hbm, ⟨30, _⟩ => ⟨S2x2x4x2048, .f32⟩
  | .hbm, ⟨31, _⟩ => ⟨S_, .f32⟩
  | .hbm, ⟨32, _⟩ => ⟨S2x2x4x2048, .f32⟩
  | .hbm, ⟨33, _⟩ => ⟨S_, .f32⟩
  | .hbm, ⟨34, _⟩ => ⟨S2x2x4x2048, .f32⟩
  | .hbm, ⟨35, _⟩ => ⟨S2x2x4x2048, .f32⟩
  | .hbm, ⟨36, _⟩ => ⟨S2x2x4x2048, .f32⟩
  | .hbm, ⟨37, _⟩ => ⟨S2x2x4x2048x1, .f32⟩
  | .hbm, ⟨38, _⟩ => ⟨S2x2x4x2048x2048, .f32⟩
  | .hbm, ⟨39, _⟩ => ⟨S2x2x4x2048x2048, .f32⟩
  | .hbm, ⟨40, _⟩ => ⟨S2x2x4x2048x2048, .f32⟩
  | .hbm, ⟨41, _⟩ => ⟨S_, .f32⟩
  | .hbm, ⟨42, _⟩ => ⟨S2x2x4x2048, .f32⟩
  | .hbm, ⟨43, _⟩ => ⟨S2x2x4x2048x1, .f32⟩
  | .hbm, ⟨44, _⟩ => ⟨S2x2x4x2048x2048, .f32⟩
  | .hbm, ⟨45, _⟩ => ⟨S2x2x4x2048x2048, .f32⟩
  | .hbm, ⟨46, _⟩ => ⟨S2x2x4x2048x1, .f32⟩
  | .hbm, ⟨47, _⟩ => ⟨S_, .f32⟩
  | .hbm, ⟨48, _⟩ => ⟨S2x2x4x2048x1, .f32⟩
  | .hbm, ⟨49, _⟩ => ⟨S2x2x4x2048x1, .f32⟩
  | .hbm, ⟨50, _⟩ => ⟨S2x2x64x4x2048, .f32⟩
  | .hbm, ⟨51, _⟩ => ⟨S2x2048x2x4x64, .f32⟩
  | .hbm, ⟨52, _⟩ => ⟨S4096x512, .f32⟩
  | .hbm, ⟨53, _⟩ => ⟨S2x2048x2x4x64, .f32⟩
  | .hbm, ⟨54, _⟩ => ⟨S2x2x64x4x2048, .f32⟩
  | .hbm, ⟨55, _⟩ => ⟨S2x2x4x2048x2048, .f32⟩
  | .hbm, ⟨56, _⟩ => ⟨S2x2x64x2048, .f32⟩
  | .hbm, ⟨57, _⟩ => ⟨S2x2048x2x64, .f32⟩
  | .hbm, ⟨58, _⟩ => ⟨S2x2x4x2048x2048, .f32⟩
  | .hbm, ⟨59, _⟩ => ⟨S2x2x4x2048x2048, .f32⟩
  | .hbm, ⟨60, _⟩ => ⟨S2x2x4x2048x2048, .f32⟩
  | .hbm, ⟨61, _⟩ => ⟨S_, .f32⟩
  | .hbm, ⟨62, _⟩ => ⟨S2x2x4x2048, .f32⟩
  | .hbm, ⟨63, _⟩ => ⟨S2x2x4x2048x1, .f32⟩
  | .hbm, ⟨64, _⟩ => ⟨S2x2x4x2048x1, .f32⟩
  | .hbm, ⟨65, _⟩ => ⟨S2x2x4x2048x2048, .f32⟩
  | .hbm, ⟨66, _⟩ => ⟨S2x2x4x2048x2048, .f32⟩
  | .hbm, ⟨67, _⟩ => ⟨S_, .f32⟩
  | .hbm, ⟨68, _⟩ => ⟨S2x2x4x2048, .f32⟩
  | .hbm, ⟨69, _⟩ => ⟨S2x2x4x2048x2048, .f32⟩
  | .hbm, ⟨70, _⟩ => ⟨S2x2x4x2048x2048, .f32⟩
  | .hbm, ⟨71, _⟩ => ⟨S2x2x4x2048x2048, .f32⟩
  | .hbm, ⟨72, _⟩ => ⟨S_, .f32⟩
  | .hbm, ⟨73, _⟩ => ⟨S2x2x4x2048x2048, .f32⟩
  | .hbm, ⟨74, _⟩ => ⟨S2x2x4x2048x2048, .f32⟩
  | .hbm, ⟨75, _⟩ => ⟨S2x2x2048x2048x4, .f32⟩
  | .hbm, ⟨76, _⟩ => ⟨S2x2x2048x4x64, .f32⟩
  | .hbm, ⟨77, _⟩ => ⟨S2x2048x2x4x64, .f32⟩
  | .hbm, ⟨78, _⟩ => ⟨S2x2x2048x64, .f32⟩
  | .hbm, ⟨79, _⟩ => ⟨S2x2048x2x64, .f32⟩
  | .hbm, ⟨80, _⟩ => ⟨S4096x128, .f32⟩
  | .hbm, ⟨81, _⟩ => ⟨S4096x128, .f32⟩
  | .hbm, ⟨82, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S4096x1024 : Shape := ⟨2, ![4096, 1024]⟩
abbrev S4096x3456 : Shape := ⟨2, ![4096, 3456]⟩
abbrev S1024x3456 : Shape := ⟨2, ![1024, 3456]⟩
abbrev S4096x1152 : Shape := ⟨2, ![4096, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S1024x3456, .bf16⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x3456 : Shape := ⟨2, ![4096, 3456]⟩
abbrev S2x2048x1024 : Shape := ⟨3, ![2, 2048, 1024]⟩
abbrev S_ : Shape := ⟨0, ![]⟩
abbrev S1024x3456 : Shape := ⟨2, ![1024, 3456]⟩
abbrev S2x2048x3456 : Shape := ⟨3, ![2, 2048, 3456]⟩
abbrev S3456x1024 : Shape := ⟨2, ![3456, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S4096x1024, .f32⟩
  | .hbm, ⟨3, _⟩ => ⟨S2x2048x1024, .f32⟩
  | .hbm, ⟨4, _⟩ => ⟨S_, .f32⟩
  | .hbm, ⟨5, _⟩ => ⟨S1024x3456, .f32⟩
  | .hbm, ⟨6, _⟩ => ⟨S2x2048x3456, .f32⟩
  | .hbm, ⟨7, _⟩ => ⟨S4096x3456, .f32⟩
  | .hbm, ⟨8, _⟩ => ⟨S2x2048x3456, .f32⟩
  | .hbm, ⟨9, _⟩ => ⟨S3456x1024, .f32⟩
  | .hbm, ⟨10, _⟩ => ⟨S1024x3456, .f32⟩
  | .hbm, ⟨11, _⟩ => ⟨S1024x3456, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x512 : Shape := ⟨2, ![4096, 512]⟩
abbrev S4096x128 : Shape := ⟨2, ![4096, 128]⟩
abbrev S_ : Shape := ⟨0, ![]⟩
abbrev S1x128 : Shape := ⟨2, ![1, 128]⟩
abbrev S4096x64 : Shape := ⟨2, ![4096, 64]⟩
abbrev S1x4096x128 : Shape := ⟨3, ![1, 4096, 128]⟩
abbrev S4x4096x128 : Shape := ⟨3, ![4, 4096, 128]⟩
abbrev S256x128 : Shape := ⟨2, ![256, 128]⟩
abbrev S1x2048x128 : Shape := ⟨3, ![1, 2048, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 66
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S1x128, .i32⟩
  | .hbm, ⟨8, _⟩ => ⟨S_, .i32⟩
  | .hbm, ⟨9, _⟩ => ⟨S1x128, .i32⟩
  | .hbm, ⟨10, _⟩ => ⟨S1x128, .i1⟩
  | .hbm, ⟨11, _⟩ => ⟨S_, .f32⟩
  | .hbm, ⟨12, _⟩ => ⟨S_, .f32⟩
  | .hbm, ⟨13, _⟩ => ⟨S4096x128, .i1⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S_, .f32⟩
  | .hbm, ⟨18, _⟩ => ⟨S4096x128, .i1⟩
  | .hbm, ⟨19, _⟩ => ⟨S4096x128, .f32⟩
  | .hbm, ⟨20, _⟩ => ⟨S4096x128, .f32⟩
  | .hbm, ⟨21, _⟩ => ⟨S4096x128, .bf16⟩
  | .hbm, ⟨22, _⟩ => ⟨S4096x64, .f32⟩
  | .hbm, ⟨23, _⟩ => ⟨S4096x64, .f32⟩
  | .hbm, ⟨24, _⟩ => ⟨S4096x128, .f32⟩
  | .hbm, ⟨25, _⟩ => ⟨S4096x128, .bf16⟩
  | .hbm, ⟨26, _⟩ => ⟨S4096x64, .f32⟩
  | .hbm, ⟨27, _⟩ => ⟨S4096x64, .f32⟩
  | .hbm, ⟨28, _⟩ => ⟨S4096x128, .f32⟩
  | .hbm, ⟨29, _⟩ => ⟨S4096x128, .bf16⟩
  | .hbm, ⟨30, _⟩ => ⟨S4096x128, .bf16⟩
  | .hbm, ⟨31, _⟩ => ⟨S1x4096x128, .bf16⟩
  | .hbm, ⟨32, _⟩ => ⟨S1x4096x128, .bf16⟩
  | .hbm, ⟨33, _⟩ => ⟨S1x4096x128, .bf16⟩
  | .hbm, ⟨34, _⟩ => ⟨S1x4096x128, .bf16⟩
  | .hbm, ⟨35, _⟩ => ⟨S4x4096x128, .bf16⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i1⟩
  | .hbm, ⟨40, _⟩ => ⟨S_, .f32⟩
  | .hbm, ⟨41, _⟩ => ⟨S_, .f32⟩
  | .hbm, ⟨42, _⟩ => ⟨S4096x128, .i1⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S_, .f32⟩
  | .hbm, ⟨47, _⟩ => ⟨S4096x128, .i1⟩
  | .hbm, ⟨48, _⟩ => ⟨S4096x128, .f32⟩
  | .hbm, ⟨49, _⟩ => ⟨S4096x128, .f32⟩
  | .hbm, ⟨50, _⟩ => ⟨S4096x128, .bf16⟩
  | .hbm, ⟨51, _⟩ => ⟨S4096x64, .f32⟩
  | .hbm, ⟨52, _⟩ => ⟨S4096x64, .f32⟩
  | .hbm, ⟨53, _⟩ => ⟨S4096x128, .f32⟩
  | .hbm, ⟨54, _⟩ => ⟨S4096x128, .bf16⟩
  | .hbm, ⟨55, _⟩ => ⟨S4096x64, .f32⟩
  | .hbm, ⟨56, _⟩ => ⟨S4096x64, .f32⟩
  | .hbm, ⟨57, _⟩ => ⟨S4096x128, .f32⟩
  | .hbm, ⟨58, _⟩ => ⟨S4096x128, .bf16⟩
  | .hbm, ⟨59, _⟩ => ⟨S4096x128, .bf16⟩
  | .hbm, ⟨60, _⟩ => ⟨S1x4096x128, .bf16⟩
  | .hbm, ⟨61, _⟩ => ⟨S1x4096x128, .bf16⟩
  | .hbm, ⟨62, _⟩ => ⟨S1x4096x128, .bf16⟩
  | .hbm, ⟨63, _⟩ => ⟨S1x4096x128, .bf16⟩
  | .hbm, ⟨64, _⟩ => ⟨S4x4096x128, .bf16⟩
  | .hbm, ⟨65, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S256x128, .f32⟩
  | .local _ .vmem, ⟨11, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_v8 : Ref sig .tc := ⟨.hbm, 21, rfl⟩
abbrev main_call2_v0 : Ref sig .tc := ⟨.hbm, 22, rfl⟩
abbrev main_call2_v1 : Ref sig .tc := ⟨.hbm, 23, rfl⟩
abbrev main_v9 : Ref sig .tc := ⟨.hbm, 24, rfl⟩
abbrev main_v10 : Ref sig .tc := ⟨.hbm, 25, rfl⟩
abbrev main_call3_v0 : Ref sig .tc := ⟨.hbm, 26, rfl⟩
abbrev main_call3_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_v22 : Ref sig .tc := ⟨.hbm, 44, rfl⟩
abbrev main_cst_4 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_v23 : Ref sig .tc := ⟨.hbm, 49, rfl⟩
abbrev main_v24 : Ref sig .tc := ⟨.hbm, 50, rfl⟩
abbrev main_call6_v0 : Ref sig .tc := ⟨.hbm, 51, rfl⟩
abbrev main_call6_v1 : Ref sig .tc := ⟨.hbm, 52, rfl⟩
abbrev main_v25 : Ref sig .tc := ⟨.hbm, 53, rfl⟩
abbrev main_v26 : Ref sig .tc := ⟨.hbm, 54, rfl⟩
abbrev main_call7_v0 : Ref sig .tc := ⟨.hbm, 55, rfl⟩
abbrev main_call7_v1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let v18 : BitVec 32 := Scalar.addi v17 c0_i32_5
  let c0_i32_6 : BitVec 32 := 0#32
  let c0_i32_7 : BitVec 32 := 0#32
  ![v18.toNat, arg0.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![v18.toNat, arg0.toNat, c0_i32_6.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let v18 : BitVec 32 := Scalar.addi v17 c0_i32_5
  let c0_i32_6 : BitVec 32 := 0#32
  let c0_i32_7 : BitVec 32 := 0#32
  ![v18.toNat, arg0.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![v18.toNat, arg0.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S4096x512 : Shape := ⟨2, ![4096, 512]⟩
abbrev S4096x128 : Shape := ⟨2, ![4096, 128]⟩
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S2x2048x2x4x64, .f32⟩
  | .hbm, ⟨4, _⟩ => ⟨S2x2048x2x64, .f32⟩
  | .hbm, ⟨5, _⟩ => ⟨S2x2048x2x64, .f32⟩
  | .hbm, ⟨6, _⟩ => ⟨S2x2x2048x2048x4, .f32⟩
  | .hbm, ⟨7, _⟩ => ⟨S2x2x4x2048x2048, .f32⟩
  | .hbm, ⟨8, _⟩ => ⟨S_, .f32⟩
  | .hbm, ⟨9, _⟩ => ⟨S2x2x4x2048x2048, .f32⟩
  | .hbm, ⟨10, _⟩ => ⟨S2x2x4x2048x2048, .f32⟩
  | .hbm, ⟨11, _⟩ => ⟨S_, .f32⟩
  | .hbm, ⟨12, _⟩ => ⟨S2x2x4x2048, .f32⟩
  | .hbm, ⟨13, _⟩ => ⟨S_, .f32⟩
  | .hbm, ⟨14, _⟩ => ⟨S2x2x4x2048, .f32⟩
  | .hbm, ⟨15, _⟩ => ⟨S2x2x4x2048, .f32⟩
  | .hbm, ⟨16, _⟩ => ⟨S2x2x4x2048x1, .f32⟩
  | .hbm, ⟨17, _⟩ => ⟨S2x2x4x2048x2048, .f32⟩
  | .hbm, ⟨18, _⟩ => ⟨S2x2x4x2048x2048, .f32⟩
  | .hbm, ⟨19, _⟩ => ⟨S2x2x4x2048x2048, .f32⟩
  | .hbm, ⟨20, _⟩ => ⟨S_, .f32⟩
  | .hbm, ⟨21, _⟩ => ⟨S2x2x4x2048, .f32⟩
  | .hbm, ⟨22, _⟩ => ⟨S2x2x4x2048x1, .f32⟩
  | .hbm, ⟨23, _⟩ => ⟨S2x2x4x2048x2048, .f32⟩
  | .hbm, ⟨24, _⟩ => ⟨S2x2x4x2048x2048, .f32⟩
  | .hbm, ⟨25, _⟩ => ⟨S2x2x64x4x2048, .f32⟩
  | .hbm, ⟨26, _⟩ => ⟨S2x2048x2x4x64, .f32⟩
  | .hbm, ⟨27, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S2x2048x1024 : Shape := ⟨3, ![2, 2048, 1024]⟩
abbrev S2x1024 : Shape := ⟨2, ![2, 1024]⟩
abbrev S1x1024 : Shape := ⟨2, ![1, 1024]⟩
abbrev S1024x3456 : Shape := ⟨2, ![1024, 3456]⟩
abbrev S1x64 : Shape := ⟨2, ![1, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2048 : Shape := ⟨1, ![2048]⟩
abbrev S16 : Shape := ⟨1, ![16]⟩
abbrev S64 : Shape := ⟨1, ![64]⟩
abbrev S2048x1 : Shape := ⟨2, ![2048, 1]⟩
abbrev S2048x64 : Shape := ⟨2, ![2048, 64]⟩
abbrev S64x1 : Shape := ⟨2, ![64, 1]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S4096x1024 : Shape := ⟨2, ![4096, 1024]⟩
abbrev S2x1x1024 : Shape := ⟨3, ![2, 1, 1024]⟩
abbrev S3456x1024 : Shape := ⟨2, ![3456, 1024]⟩
abbrev S4096x512 : Shape := ⟨2, ![4096, 512]⟩
abbrev S4x4096x128 : Shape := ⟨3, ![4, 4096, 128]⟩
abbrev S4096x128 : Shape := ⟨2, ![4096, 128]⟩
abbrev S4096x1664 : Shape := ⟨2, ![4096, 1664]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S4x512x128 : Shape := ⟨3, ![4, 512, 128]⟩
abbrev S512x1664 : Shape := ⟨2, ![512, 1664]⟩
abbrev S512 : Shape := ⟨1, ![512]⟩
abbrev S512x1 : Shape := ⟨2, ![512, 1]⟩
abbrev S128x1024 : Shape := ⟨2, ![128, 1024]⟩
abbrev S1664x1024 : Shape := ⟨2, ![1664, 1024]⟩
abbrev S1024x512 : Shape := ⟨2, ![1024, 512]⟩
abbrev S1024x256 : Shape := ⟨2, ![1024, 256]⟩
abbrev S1024x128 : Shape := ⟨2, ![1024, 128]⟩
abbrev S128x128 : Shape := ⟨2, ![128, 128]⟩
abbrev S1x512x128 : Shape := ⟨3, ![1, 512, 128]⟩

abbrev nBuf : Space → Nat
  | .hbm => 156
  | .vmem => 33
  | .smem => 0
  | _ => 0

abbrev hbmTy0_0 (i : Nat) : BufTy := match i % 128 with
  | 0 => ⟨S2x2048x1024, .f32⟩
  | 1 => ⟨S2x1024, .f32⟩
  | 2 => ⟨S2x1024, .f32⟩
  | 3 => ⟨S1x1024, .f32⟩
  | 4 => ⟨S1024x3456, .f32⟩
  | 5 => ⟨S1x64, .f32⟩
  | 6 => ⟨S1x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S1x256, .i32⟩
  | 28 => ⟨S256x256, .i32⟩
  | 29 => ⟨S256x256, .i32⟩
  | 30 => ⟨S256x256, .i1⟩
  | 31 => ⟨S256x256, .bf16⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S64, .i32⟩
  | 50 => ⟨S_, .i32⟩
  | 51 => ⟨S64, .i32⟩
  | 52 => ⟨S64, .i1⟩
  | 53 => ⟨S1x64, .i1⟩
  | 54 => ⟨S2048x1, .f32⟩
  | 55 => ⟨S2048x1, .f32⟩
  | 56 => ⟨S2048x64, .i1⟩
  | 57 => ⟨S2048x64, .f32⟩
  | 58 => ⟨S2048x64, .f32⟩
  | 59 => ⟨S2048x64, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i1⟩
  | 71 => ⟨S_, .i32⟩
  | 72 => ⟨S64, .i32⟩
  | 73 => ⟨S64, .i1⟩
  | 74 => ⟨S_, .i32⟩
  | 75 => ⟨S_, .i1⟩
  | 76 => ⟨S64, .i1⟩
  | 77 => ⟨S64, .i1⟩
  | 78 => ⟨S64, .i1⟩
  | 79 => ⟨S64, .i32⟩
  | 80 => ⟨S64, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S64, .f32⟩
  | 91 => ⟨S1x64, .f32⟩
  | 92 => ⟨S2048x64, .f32⟩
  | 93 => ⟨S2048x64, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S64, .i32⟩
  | 101 => ⟨S64, .i32⟩
  | 102 => ⟨S_, .i32⟩
  | 103 => ⟨S64, .i32⟩
  | 104 => ⟨S64, .i1⟩
  | 105 => ⟨S_, .i32⟩
  | 106 => ⟨S64, .i32⟩
  | 107 => ⟨S64, .i1⟩
  | 108 => ⟨S_, .i32⟩
  | 109 => ⟨S_, .i1⟩
  | 110 => ⟨S64, .i1⟩
  | 111 => ⟨S64, .i1⟩
  | 112 => ⟨S64, .i1⟩
  | 113 => ⟨S64, .i32⟩
  | 114 => ⟨S64, .i32⟩
  | 115 => ⟨S64, .i32⟩
  | 116 => ⟨S_, .i32⟩
  | 117 => ⟨S64, .i32⟩
  | 118 => ⟨S64, .i1⟩
  | 119 => ⟨S_, .f32⟩
  | 120 => ⟨S_, .f32⟩
  | 121 => ⟨S64, .f32⟩
  | 122 => ⟨S64, .f32⟩
  | 123 => ⟨S64, .f32⟩
  | 124 => ⟨S64, .f32⟩
  | 125 => ⟨S1x64, .f32⟩
  | 126 => ⟨S2048x64, .f32⟩
  | 127 => ⟨S2048x64, .f32⟩
  | _ => ⟨S2x2048x1024, .f32⟩

abbrev hbmTy0_1 (i : Nat) : BufTy := match i % 128 with
  | 0 => ⟨S2048x64, .f32⟩
  | 1 => ⟨S2048x64, .f32⟩
  | 2 => ⟨S1x2048x1x64, .f32⟩
  | 3 => ⟨S1x2048x2x64, .f32⟩
  | 4 => ⟨S2048x128, .f32⟩
  | 5 => ⟨S1x2048x1x64, .f32⟩
  | 6 => ⟨S1x2048x2x64, .f32⟩
  | 7 => ⟨S2048x128, .f32⟩
  | 8 => ⟨S1x1x1x64, .f32⟩
  | 9 => ⟨S1x1x8x64, .f32⟩
  | 10 => ⟨S1x512, .f32⟩
  | 11 => ⟨S1x1x1x64, .f32⟩
  | 12 => ⟨S1x1x2x64, .f32⟩
  | 13 => ⟨S1x128, .f32⟩
  | 14 => ⟨S4096x1024, .f32⟩
  | 15 => ⟨S2x1x1024, .f32⟩
  | 16 => ⟨S2x1x1024, .f32⟩
  | 17 => ⟨S3456x1024, .f32⟩
  | 18 => ⟨S3456x1024, .bf16⟩
  | 19 => ⟨S4096x1024, .bf16⟩
  | 20 => ⟨S4096x512, .bf16⟩
  | 21 => ⟨S4x4096x128, .bf16⟩
  | 22 => ⟨S4x4096x128, .bf16⟩
  | 23 => ⟨S4096x512, .f32⟩
  | 24 => ⟨S4096x128, .f32⟩
  | 25 => ⟨S4096x512, .f32⟩
  | 26 => ⟨S4096x1664, .f32⟩
  | 27 => ⟨S4096x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S3456x1024, .bf16⟩
  | .local _ .vmem, ⟨8, _⟩ => ⟨S1x512, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S256x256, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S512x512, .f32⟩
  | .local _ .vmem, ⟨24, _⟩ => ⟨S512x512, .f32⟩
  | .local _ .vmem, ⟨25, _⟩ => ⟨S512x128, .f32⟩
  | .local _ .vmem, ⟨26, _⟩ => ⟨S512x128, .f32⟩
  | .local _ .vmem, ⟨27, _⟩ => ⟨S512x512, .f32⟩
  | .local _ .vmem, ⟨28, _⟩ => ⟨S512x512, .f32⟩
  | .local _ .vmem, ⟨29, _⟩ => ⟨S512x1664, .f32⟩
  | .local _ .vmem, ⟨30, _⟩ => ⟨S512x1664, .f32⟩
  | .local _ .vmem, ⟨31, _⟩ => ⟨S512x512, .f32⟩
  | .local _ .vmem, ⟨32, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v27 : Ref sig .tc := ⟨.hbm, 59, rfl⟩
abbrev main_c_4 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v28 : Ref sig .tc := ⟨.hbm, 81, rfl⟩
abbrev main_c_5 : Ref sig .tc := ⟨.hbm, 82, rfl⟩
abbrev main_v29 : Ref sig .tc := ⟨.hbm, 83, rfl⟩
abbrev main_v30 : Ref sig .tc := ⟨.hbm, 84, rfl⟩
abbrev main_c_6 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_c_7 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_1 : Ref sig .tc := ⟨.hbm, 102, rfl⟩
abbrev main_call3_v5 : Ref sig .tc := ⟨.hbm, 103, rfl⟩
abbrev main_call3_v6 : Ref sig .tc := ⟨.hbm, 104, rfl⟩
abbrev main_call3_c_2 : Ref sig .tc := ⟨.hbm, 105, rfl⟩
abbrev main_call3_v7 : Ref sig .tc := ⟨.hbm, 106, rfl⟩
abbrev main_call3_v8 : Ref sig .tc := ⟨.hbm, 107, rfl⟩
abbrev main_call3_c_3 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_v39 : Ref sig .tc := ⟨.hbm, 115, rfl⟩
abbrev main_c_8 : Ref sig .tc := ⟨.hbm, 116, rfl⟩
abbrev main_v40 : Ref sig .tc := ⟨.hbm, 117, rfl⟩
abbrev main_v41 : Ref sig .tc := ⟨.hbm, 118, rfl⟩
abbrev main_cst_9 : Ref sig .tc := ⟨.hbm, 119, rfl⟩
abbrev main_cst_10 : Ref sig .tc := ⟨.hbm, 120, rfl⟩
abbrev main_call4_v0 : Ref sig .tc := ⟨.hbm, 121, rfl⟩
abbrev main_call4_v1 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66_0 : Ref sig .tc := ⟨.hbm, 147, rfl⟩
abbrev main_v66_1 : Ref sig .tc := ⟨.hbm, 148, rfl⟩
abbrev main_v66_2 : Ref sig .tc := ⟨.hbm, 149, rfl⟩
abbrev main_v66_3 : Ref sig .tc := ⟨.hbm, 150, rfl⟩
abbrev main_v66_4 : Ref sig .tc := ⟨.hbm, 151, rfl⟩
abbrev main_v66_5 : Ref sig .tc := ⟨.hbm, 152, rfl⟩
abbrev main_v66_6 : Ref sig .tc := ⟨.hbm, 153, rfl⟩
abbrev main_v66_7 : Ref sig .tc := ⟨.hbm, 154, rfl⟩
abbrev main_v66_8 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3456x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1664 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S2x2048x1024 : Shape := ⟨3, ![2, 2048, 1024]⟩
abbrev S2x1024 : Shape := ⟨2, ![2, 1024]⟩
abbrev S1x1024 : Shape := ⟨2, ![1, 1024]⟩
abbrev S1024x3456 : Shape := ⟨2, ![1024, 3456]⟩
abbrev S1x64 : Shape := ⟨2, ![1, 64]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x3456 : Shape := ⟨3, ![2, 2048, 3456]⟩
abbrev S2x2048x512 : Shape := ⟨3, ![2, 2048, 512]⟩
abbrev S2x2048x128 : Shape := ⟨3, ![2, 2048, 128]⟩
abbrev S2x2048x1664 : Shape := ⟨3, ![2, 2048, 1664]⟩
abbrev S4096x512 : Shape := ⟨2, ![4096, 512]⟩
abbrev S4096x128 : Shape := ⟨2, ![4096, 128]⟩
abbrev S4096x1664 : Shape := ⟨2, ![4096, 1664]⟩
abbrev S4096x2x64 : Shape := ⟨3, ![4096, 2, 64]⟩
abbrev S4096x2x128 : Shape := ⟨3, ![4096, 2, 128]⟩
abbrev S4096x1x128 : Shape := ⟨3, ![4096, 1, 128]⟩
abbrev S1x4096x128 : Shape := ⟨3, ![1, 4096, 128]⟩
abbrev S4x4096x128 : Shape := ⟨3, ![4, 4096, 128]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1024x3456, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x3456, .f32⟩
  | .hbm, ⟨34, _⟩ => ⟨S2x2048x512, .f32⟩
  | .hbm, ⟨35, _⟩ => ⟨S2x2048x128, .f32⟩
  | .hbm, ⟨36, _⟩ => ⟨S2x2048x128, .f32⟩
  | .hbm, ⟨37, _⟩ => ⟨S2x2048x512, .f32⟩
  | .hbm, ⟨38, _⟩ => ⟨S2x2048x1664, .f32⟩
  | .hbm, ⟨39, _⟩ => ⟨S2x2048x512, .f32⟩
  | .hbm, ⟨40, _⟩ => ⟨S4096x512, .f32⟩
  | .hbm, ⟨41, _⟩ => ⟨S4096x128, .f32⟩
  | .hbm, ⟨42, _⟩ => ⟨S4096x128, .f32⟩
  | .hbm, ⟨43, _⟩ => ⟨S4096x512, .f32⟩
  | .hbm, ⟨44, _⟩ => ⟨S4096x1664, .f32⟩
  | .hbm, ⟨45, _⟩ => ⟨S4096x512, .f32⟩
  | .hbm, ⟨46, _⟩ => ⟨S4096x2x64, .f32⟩
  | .hbm, ⟨47, _⟩ => ⟨S_, .i32⟩
  | .hbm, ⟨48, _⟩ => ⟨S_, .f32⟩
  | .hbm, ⟨49, _⟩ => ⟨S4096x2x128, .f32⟩
  | .hbm, ⟨50, _⟩ => ⟨S_, .i32⟩
  | .hbm, ⟨51, _⟩ => ⟨S_, .f32⟩
  | .hbm, ⟨52, _⟩ => ⟨S4096x2x128, .f32⟩
  | .hbm, ⟨53, _⟩ => ⟨S4096x1x128, .f32⟩
  | .hbm, ⟨54, _⟩ => ⟨S4096x128, .f32⟩
  | .hbm, ⟨55, _⟩ => ⟨S4096x1x128, .f32⟩
  | .hbm, ⟨56, _⟩ => ⟨S4096x128, .f32⟩
  | .hbm, ⟨57, _⟩ => ⟨S4096x1x128, .f32⟩
  | .hbm, ⟨58, _⟩ => ⟨S4096x128, .f32⟩
  | .hbm, ⟨59, _⟩ => ⟨S4096x1x128, .f32⟩
  | .hbm, ⟨60, _⟩ => ⟨S4096x128, .f32⟩
  | .hbm, ⟨61, _⟩ => ⟨S1x4096x128, .f32⟩
  | .hbm, ⟨62, _⟩ => ⟨S1x4096x128, .f32⟩
  | .hbm, ⟨63, _⟩ => ⟨S1x4096x128, .f32⟩
  | .hbm, ⟨64, _⟩ => ⟨S1x4096x128, .f32⟩
  | .hbm, ⟨65, _⟩ => ⟨S4x4096x128, .f32⟩
  | .hbm, ⟨66, _⟩ => ⟨S4096x1024, .f32⟩
  | .hbm, ⟨67, _⟩ => ⟨S4096x1024, .bf16⟩
  | .hbm, ⟨68, _⟩ => ⟨S4x4096x128, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_c_3 : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel5.lean ====
abbrev S4x1024x432 : Shape := ⟨3, ![4, 1024, 432]⟩
abbrev S1024x432 : Shape := ⟨2, ![1024, 432]⟩
abbrev S4x512x432 : Shape := ⟨3, ![4, 512, 432]⟩
abbrev S512x432 : Shape := ⟨2, ![512, 432]⟩
abbrev S1x512x432 : Shape := ⟨3, ![1, 512, 432]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x432, .bf16⟩
  | .hbm, ⟨1, _⟩ => ⟨S1024x432, .f32⟩
  | .hbm, ⟨2, _⟩ => ⟨S1024x432, .f32⟩
  | .hbm, ⟨3, _⟩ => ⟨S1024x432, .f32⟩
  | .hbm, ⟨4, _⟩ => ⟨S1024x432, .f32⟩
  | .hbm, ⟨5, _⟩ => ⟨S1024x432, .f32⟩
  | .hbm, ⟨6, _⟩ => ⟨S1024x432, .f32⟩
  | .hbm, ⟨7, _⟩ => ⟨S1024x432, .f32⟩
  | .local _ .vmem, ⟨0, _⟩ => ⟨S4x512x432, .bf16⟩
  | .local _ .vmem, ⟨1, _⟩ => ⟨S4x512x432, .bf16⟩
  | .local _ .vmem, ⟨2, _⟩ => ⟨S512x432, .f32⟩
  | .local _ .vmem, ⟨3, _⟩ => ⟨S512x432, .f32⟩
  | .local _ .vmem, ⟨4, _⟩ => ⟨S512x432, .f32⟩
  | .local _ .vmem, ⟨5, _⟩ => ⟨S512x432, .f32⟩
  | .local _ .vmem, ⟨6, _⟩ => ⟨S512x432, .f32⟩
  | .local _ .vmem, ⟨7, _⟩ => ⟨S512x432, .f32⟩
  | .local _ .vmem, ⟨8, _⟩ => ⟨S512x432, .f32⟩
  | .local _ .vmem, ⟨9, _⟩ => ⟨S512x432, .f32⟩
  | .local _ .vmem, ⟨10, _⟩ => ⟨S512x432, .f32⟩
  | .local _ .vmem, ⟨11, _⟩ => ⟨S512x432, .f32⟩
  | .local _ .vmem, ⟨12, _⟩ => ⟨S512x432, .f32⟩
  | .local _ .vmem, ⟨13, _⟩ => ⟨S512x432, .f32⟩
  | .local _ .vmem, ⟨14, _⟩ => ⟨S512x432, .f32⟩
  | .local _ .vmem, ⟨15, _⟩ => ⟨S512x432, .f32⟩
  | _, _ => ⟨S4x1024x432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x432 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x1024x432 : Shape := ⟨3, ![4, 1024, 432]⟩
abbrev S1024x432 : Shape := ⟨2, ![1024, 432]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x432, .bf16⟩
  | .hbm, ⟨1, _⟩ => ⟨S1024x432, .f32⟩
  | .hbm, ⟨2, _⟩ => ⟨S1024x432, .f32⟩
  | .hbm, ⟨3, _⟩ => ⟨S1024x432, .f32⟩
  | .hbm, ⟨4, _⟩ => ⟨S4x1024x432, .f32⟩
  | .hbm, ⟨5, _⟩ => ⟨S_, .f32⟩
  | .hbm, ⟨6, _⟩ => ⟨S1024x432, .f32⟩
  | .hbm, ⟨7, _⟩ => ⟨S_, .f32⟩
  | .hbm, ⟨8, _⟩ => ⟨S1024x432, .f32⟩
  | .hbm, ⟨9, _⟩ => ⟨S1024x432, .f32⟩
  | .hbm, ⟨10, _⟩ => ⟨S_, .f32⟩
  | .hbm, ⟨11, _⟩ => ⟨S1024x432, .f32⟩
  | .hbm, ⟨12, _⟩ => ⟨S1024x432, .f32⟩
  | .hbm, ⟨13, _⟩ => ⟨S1024x432, .f32⟩
  | .hbm, ⟨14, _⟩ => ⟨S_, .f32⟩
  | .hbm, ⟨15, _⟩ => ⟨S1024x432, .f32⟩
  | .hbm, ⟨16, _⟩ => ⟨S1024x432, .f32⟩
  | .hbm, ⟨17, _⟩ => ⟨S1024x432, .f32⟩
  | .hbm, ⟨18, _⟩ => ⟨S_, .f32⟩
  | .hbm, ⟨19, _⟩ => ⟨S1024x432, .f32⟩
  | .hbm, ⟨20, _⟩ => ⟨S1024x432, .f32⟩
  | .hbm, ⟨21, _⟩ => ⟨S1024x432, .f32⟩
  | .hbm, ⟨22, _⟩ => ⟨S_, .f32⟩
  | .hbm, ⟨23, _⟩ => ⟨S1024x432, .f32⟩
  | .hbm, ⟨24, _⟩ => ⟨S1024x432, .f32⟩
  | .hbm, ⟨25, _⟩ => ⟨S_, .f32⟩
  | .hbm, ⟨26, _⟩ => ⟨S1024x432, .f32⟩
  | .hbm, ⟨27, _⟩ => ⟨S1024x432, .f32⟩
  | .hbm, ⟨28, _⟩ => ⟨S1024x432, .f32⟩
  | .hbm, ⟨29, _⟩ => ⟨S_, .f32⟩
  | .hbm, ⟨30, _⟩ => ⟨S1024x432, .f32⟩
  | .hbm, ⟨31, _⟩ => ⟨S1024x432, .f32⟩
  | .hbm, ⟨32, _⟩ => ⟨S1024x432, .f32⟩
  | .hbm, ⟨33, _⟩ => ⟨S_, .f32⟩
  | .hbm, ⟨34, _⟩ => ⟨S1024x432, .f32⟩
  | .hbm, ⟨35, _⟩ => ⟨S1024x432, .f32⟩
  | .hbm, ⟨36, _⟩ => ⟨S1024x432, .f32⟩
  | .hbm, ⟨37, _⟩ => ⟨S_, .f32⟩
  | .hbm, ⟨38, _⟩ => ⟨S1024x432, .f32⟩
  | .hbm, ⟨39, _⟩ => ⟨S1024x432, .f32⟩
  | _, _ => ⟨S4x1024x432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel6.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S1x1024x384 : Shape := ⟨3, ![1, 1024, 384]⟩
abbrev S1024x384 : Shape := ⟨2, ![1024, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S1x1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S1x1024x384 : Shape := ⟨3, ![1, 1024, 384]⟩
abbrev S1024x384 : Shape := ⟨2, ![1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel8.lean ====
abbrev S16x1024 : Shape := ⟨2, ![16, 1024]⟩
abbrev S16x384 : Shape := ⟨2, ![16, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference8Ideal.lean ====
abbrev S16x1024 : Shape := ⟨2, ![16, 1024]⟩
abbrev S16x384 : Shape := ⟨2, ![16, 384]⟩
abbrev S_ : Shape := ⟨0, ![]⟩
abbrev S1024x384 : Shape := ⟨2, ![1024, 384]⟩
abbrev S1x384 : Shape := ⟨2, ![1, 384]⟩
abbrev S384x1024 : Shape := ⟨2, ![384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S_, .f32⟩
  | .hbm, ⟨3, _⟩ => ⟨S1024x384, .f32⟩
  | .hbm, ⟨4, _⟩ => ⟨S_, .f32⟩
  | .hbm, ⟨5, _⟩ => ⟨S1x384, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x384, .f32⟩
  | .hbm, ⟨16, _⟩ => ⟨S16x384, .f32⟩
  | .hbm, ⟨17, _⟩ => ⟨S16x384, .f32⟩
  | .hbm, ⟨18, _⟩ => ⟨S384x1024, .f32⟩
  | .hbm, ⟨19, _⟩ => ⟨S1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel9.lean ====
abbrev S16x1024 : Shape := ⟨2, ![16, 1024]⟩
abbrev S1024x384 : Shape := ⟨2, ![1024, 384]⟩
abbrev S1x384 : Shape := ⟨2, ![1, 384]⟩
abbrev S16x384 : Shape := ⟨2, ![16, 384]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x384, .f32⟩
  | .hbm, ⟨2, _⟩ => ⟨S1x384, .f32⟩
  | .hbm, ⟨3, _⟩ => ⟨S1024x384, .bf16⟩
  | .hbm, ⟨4, _⟩ => ⟨S16x384, .f32⟩
  | .local _ .vmem, ⟨0, _⟩ => ⟨S16x1024, .f32⟩
  | .local _ .vmem, ⟨1, _⟩ => ⟨S1024x384, .bf16⟩
  | .local _ .vmem, ⟨2, _⟩ => ⟨S1x384, .f32⟩
  | .local _ .vmem, ⟨3, _⟩ => ⟨S16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference9Ideal.lean ====
abbrev S16x1024 : Shape := ⟨2, ![16, 1024]⟩
abbrev S1024x384 : Shape := ⟨2, ![1024, 384]⟩
abbrev S1x384 : Shape := ⟨2, ![1, 384]⟩
abbrev S_ : Shape := ⟨0, ![]⟩
abbrev S16x384 : Shape := ⟨2, ![16, 384]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x384, .f32⟩
  | .hbm, ⟨2, _⟩ => ⟨S1x384, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x384, .f32⟩
  | .hbm, ⟨13, _⟩ => ⟨S16x384, .f32⟩
  | .hbm, ⟨14, _⟩ => ⟨S16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel10.lean ====
abbrev S4096x1664 : Shape := ⟨2, ![4096, 1664]⟩
abbrev S8x1664 : Shape := ⟨2, ![8, 1664]⟩
abbrev S4096x1024 : Shape := ⟨2, ![4096, 1024]⟩
abbrev S512x1664 : Shape := ⟨2, ![512, 1664]⟩
abbrev S512x1024 : Shape := ⟨2, ![512, 1024]⟩
abbrev S512x1 : Shape := ⟨2, ![512, 1]⟩
abbrev S1x1664 : Shape := ⟨2, ![1, 1664]⟩
abbrev S1x128 : Shape := ⟨2, ![1, 128]⟩
abbrev S512x128 : Shape := ⟨2, ![512, 128]⟩

abbrev nBuf : Space → Nat
  | .hbm => 4
  | .vmem => 11
  | .smem => 0
  | _ => 0

abbrev bufTy : (tb : Table) → Fin (tcTables nBuf tb) → BufTy
  | .hbm, ⟨0, _⟩ => ⟨S4096x1664, .f32⟩
  | .hbm, ⟨1, _⟩ => ⟨S8x1664, .f32⟩
  | .hbm, ⟨2, _⟩ => ⟨S4096x1664, .f32⟩
  | .hbm, ⟨3, _⟩ => ⟨S4096x1024, .f32⟩
  | .local _ .vmem, ⟨0, _⟩ => ⟨S512x1664, .f32⟩
  | .local _ .vmem, ⟨1, _⟩ => ⟨S512x1664, .f32⟩
  | .local _ .vmem, ⟨2, _⟩ => ⟨S8x1664, .f32⟩
  | .local _ .vmem, ⟨3, _⟩ => ⟨S8x1664, .f32⟩
  | .local _ .vmem, ⟨4, _⟩ => ⟨S8x1664, .f32⟩
  | .local _ .vmem, ⟨5, _⟩ => ⟨S8x1664, .f32⟩
  | .local _ .vmem, ⟨6, _⟩ => ⟨S8x1664, .f32⟩
  | .local _ .vmem, ⟨7, _⟩ => ⟨S512x1664, .f32⟩
  | .local _ .vmem, ⟨8, _⟩ => ⟨S512x1664, .f32⟩
  | .local _ .vmem, ⟨9, _⟩ => ⟨S512x1024, .f32⟩
  | .local _ .vmem, ⟨10, _⟩ => ⟨S512x1024, .f32⟩
  | _, _ => ⟨S4096x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1664 : Shape := ⟨2, ![4096, 1664]⟩
abbrev S8x1664 : Shape := ⟨2, ![8, 1664]⟩
abbrev S2x2048x1664 : Shape := ⟨3, ![2, 2048, 1664]⟩
abbrev S2x1x1664 : Shape := ⟨3, ![2, 1, 1664]⟩
abbrev S_ : Shape := ⟨0, ![]⟩
abbrev S2x2050x1664 : Shape := ⟨3, ![2, 2050, 1664]⟩
abbrev S1x1664 : Shape := ⟨2, ![1, 1664]⟩
abbrev S1664 : Shape := ⟨1, ![1664]⟩
abbrev S1x1x1664 : Shape := ⟨3, ![1, 1, 1664]⟩

abbrev nBuf : Space → Nat
  | .hbm => 28
  | .vmem => 0
  | .smem => 0
  | _ => 0

abbrev bufTy : (tb : Table) → Fin (tcTables nBuf tb) → BufTy
  | .hbm, ⟨0, _⟩ => ⟨S4096x1664, .f32⟩
  | .hbm, ⟨1, _⟩ => ⟨S8x1664, .f32⟩
  | .hbm, ⟨2, _⟩ => ⟨S2x2048x1664, .f32⟩
  | .hbm, ⟨3, _⟩ => ⟨S2x1x1664, .f32⟩
  | .hbm, ⟨4, _⟩ => ⟨S_, .f32⟩
  | .hbm, ⟨5, _⟩ => ⟨S2x1x1664, .f32⟩
  | .hbm, ⟨6, _⟩ => ⟨S2x2050x1664, .f32⟩
  | .hbm, ⟨7, _⟩ => ⟨S1x1664, .f32⟩
  | .hbm, ⟨8, _⟩ => ⟨S1664, .f32⟩
  | .hbm, ⟨9, _⟩ => ⟨S2x2048x1664, .f32⟩
  | .hbm, ⟨10, _⟩ => ⟨S1x1x1664, .f32⟩
  | .hbm, ⟨11, _⟩ => ⟨S2x2048x1664, .f32⟩
  | .hbm, ⟨12, _⟩ => ⟨S2x2048x1664, .f32⟩
  | .hbm, ⟨13, _⟩ => ⟨S1x1664, .f32⟩
  | .hbm, ⟨14, _⟩ => ⟨S1664, .f32⟩
  | .hbm, ⟨15, _⟩ => ⟨S2x2048x1664, .f32⟩
  | .hbm, ⟨16, _⟩ => ⟨S1x1x1664, .f32⟩
  | .hbm, ⟨17, _⟩ => ⟨S2x2048x1664, .f32⟩
  | .hbm, ⟨18, _⟩ => ⟨S2x2048x1664, .f32⟩
  | .hbm, ⟨19, _⟩ => ⟨S2x2048x1664, .f32⟩
  | .hbm, ⟨20, _⟩ => ⟨S1x1664, .f32⟩
  | .hbm, ⟨21, _⟩ => ⟨S1664, .f32⟩
  | .hbm, ⟨22, _⟩ => ⟨S2x2048x1664, .f32⟩
  | .hbm, ⟨23, _⟩ => ⟨S1x1x1664, .f32⟩
  | .hbm, ⟨24, _⟩ => ⟨S2x2048x1664, .f32⟩
  | .hbm, ⟨25, _⟩ => ⟨S2x2048x1664, .f32⟩
  | .hbm, ⟨26, _⟩ => ⟨S2x2048x1664, .f32⟩
  | .hbm, ⟨27, _⟩ => ⟨S4096x1664, .f32⟩
  | _, _ => ⟨S4096x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel11.lean ====
abbrev S4096x1664 : Shape := ⟨2, ![4096, 1664]⟩
abbrev S8x1664 : Shape := ⟨2, ![8, 1664]⟩
abbrev S512x1664 : Shape := ⟨2, ![512, 1664]⟩
abbrev S512x1 : Shape := ⟨2, ![512, 1]⟩
abbrev S1x1664 : Shape := ⟨2, ![1, 1664]⟩
abbrev S1664 : Shape := ⟨1, ![1664]⟩

abbrev nBuf : Space → Nat
  | .hbm => 5
  | .vmem => 16
  | .smem => 0
  | _ => 0

abbrev bufTy : (tb : Table) → Fin (tcTables nBuf tb) → BufTy
  | .hbm, ⟨0, _⟩ => ⟨S4096x1664, .f32⟩
  | .hbm, ⟨1, _⟩ => ⟨S4096x1664, .f32⟩
  | .hbm, ⟨2, _⟩ => ⟨S8x1664, .f32⟩
  | .hbm, ⟨3, _⟩ => ⟨S4096x1664, .f32⟩
  | .hbm, ⟨4, _⟩ => ⟨S8x1664, .f32⟩
  | .local _ .vmem, ⟨0, _⟩ => ⟨S512x1664, .f32⟩
  | .local _ .vmem, ⟨1, _⟩ => ⟨S512x1664, .f32⟩
  | .local _ .vmem, ⟨2, _⟩ => ⟨S8x1664, .f32⟩
  | .local _ .vmem, ⟨3, _⟩ => ⟨S8x1664, .f32⟩
  | .local _ .vmem, ⟨4, _⟩ => ⟨S8x1664, .f32⟩
  | .local _ .vmem, ⟨5, _⟩ => ⟨S8x1664, .f32⟩
  | .local _ .vmem, ⟨6, _⟩ => ⟨S512x1664, .f32⟩
  | .local _ .vmem, ⟨7, _⟩ => ⟨S512x1664, .f32⟩
  | .local _ .vmem, ⟨8, _⟩ => ⟨S8x1664, .f32⟩
  | .local _ .vmem, ⟨9, _⟩ => ⟨S8x1664, .f32⟩
  | .local _ .vmem, ⟨10, _⟩ => ⟨S8x1664, .f32⟩
  | .local _ .vmem, ⟨11, _⟩ => ⟨S8x1664, .f32⟩
  | .local _ .vmem, ⟨12, _⟩ => ⟨S8x1664, .f32⟩
  | .local _ .vmem, ⟨13, _⟩ => ⟨S512x1664, .f32⟩
  | .local _ .vmem, ⟨14, _⟩ => ⟨S512x1664, .f32⟩
  | .local _ .vmem, ⟨15, _⟩ => ⟨S8x1664, .f32⟩
  | _, _ => ⟨S4096x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1664 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1664 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S4096x1664 : Shape := ⟨2, ![4096, 1664]⟩
abbrev S8x1664 : Shape := ⟨2, ![8, 1664]⟩
abbrev S2x2048x1664 : Shape := ⟨3, ![2, 2048, 1664]⟩
abbrev S2x1x1664 : Shape := ⟨3, ![2, 1, 1664]⟩
abbrev S_ : Shape := ⟨0, ![]⟩
abbrev S2x2050x1664 : Shape := ⟨3, ![2, 2050, 1664]⟩
abbrev S1x1664 : Shape := ⟨2, ![1, 1664]⟩
abbrev S1664 : Shape := ⟨1, ![1664]⟩
abbrev S1x1x1664 : Shape := ⟨3, ![1, 1, 1664]⟩

abbrev nBuf : Space → Nat
  | .hbm => 51
  | .vmem => 0
  | .smem => 0
  | _ => 0

abbrev bufTy : (tb : Table) → Fin (tcTables nBuf tb) → BufTy
  | .hbm, ⟨0, _⟩ => ⟨S4096x1664, .f32⟩
  | .hbm, ⟨1, _⟩ => ⟨S4096x1664, .f32⟩
  | .hbm, ⟨2, _⟩ => ⟨S8x1664, .f32⟩
  | .hbm, ⟨3, _⟩ => ⟨S2x2048x1664, .f32⟩
  | .hbm, ⟨4, _⟩ => ⟨S2x1x1664, .f32⟩
  | .hbm, ⟨5, _⟩ => ⟨S_, .f32⟩
  | .hbm, ⟨6, _⟩ => ⟨S2x1x1664, .f32⟩
  | .hbm, ⟨7, _⟩ => ⟨S2x2050x1664, .f32⟩
  | .hbm, ⟨8, _⟩ => ⟨S_, .f32⟩
  | .hbm, ⟨9, _⟩ => ⟨S2x1x1664, .f32⟩
  | .hbm, ⟨10, _⟩ => ⟨S_, .f32⟩
  | .hbm, ⟨11, _⟩ => ⟨S2x1x1664, .f32⟩
  | .hbm, ⟨12, _⟩ => ⟨S1x1664, .f32⟩
  | .hbm, ⟨13, _⟩ => ⟨S1664, .f32⟩
  | .hbm, ⟨14, _⟩ => ⟨S2x2048x1664, .f32⟩
  | .hbm, ⟨15, _⟩ => ⟨S1x1x1664, .f32⟩
  | .hbm, ⟨16, _⟩ => ⟨S2x2048x1664, .f32⟩
  | .hbm, ⟨17, _⟩ => ⟨S2x2048x1664, .f32⟩
  | .hbm, ⟨18, _⟩ => ⟨S1x1664, .f32⟩
  | .hbm, ⟨19, _⟩ => ⟨S1664, .f32⟩
  | .hbm, ⟨20, _⟩ => ⟨S2x2048x1664, .f32⟩
  | .hbm, ⟨21, _⟩ => ⟨S1x1x1664, .f32⟩
  | .hbm, ⟨22, _⟩ => ⟨S2x2048x1664, .f32⟩
  | .hbm, ⟨23, _⟩ => ⟨S2x2048x1664, .f32⟩
  | .hbm, ⟨24, _⟩ => ⟨S2x2048x1664, .f32⟩
  | .hbm, ⟨25, _⟩ => ⟨S1x1664, .f32⟩
  | .hbm, ⟨26, _⟩ => ⟨S1664, .f32⟩
  | .hbm, ⟨27, _⟩ => ⟨S2x2048x1664, .f32⟩
  | .hbm, ⟨28, _⟩ => ⟨S1x1x1664, .f32⟩
  | .hbm, ⟨29, _⟩ => ⟨S2x2048x1664, .f32⟩
  | .hbm, ⟨30, _⟩ => ⟨S2x2048x1664, .f32⟩
  | .hbm, ⟨31, _⟩ => ⟨S2x2048x1664, .f32⟩
  | .hbm, ⟨32, _⟩ => ⟨S2x2048x1664, .f32⟩
  | .hbm, ⟨33, _⟩ => ⟨S2x2048x1664, .f32⟩
  | .hbm, ⟨34, _⟩ => ⟨S2x2048x1664, .f32⟩
  | .hbm, ⟨35, _⟩ => ⟨S_, .f32⟩
  | .hbm, ⟨36, _⟩ => ⟨S2x2050x1664, .f32⟩
  | .hbm, ⟨37, _⟩ => ⟨S2x2048x1664, .f32⟩
  | .hbm, ⟨38, _⟩ => ⟨S2x2048x1664, .f32⟩
  | .hbm, ⟨39, _⟩ => ⟨S_, .f32⟩
  | .hbm, ⟨40, _⟩ => ⟨S2x2050x1664, .f32⟩
  | .hbm, ⟨41, _⟩ => ⟨S2x2050x1664, .f32⟩
  | .hbm, ⟨42, _⟩ => ⟨S2x2048x1664, .f32⟩
  | .hbm, ⟨43, _⟩ => ⟨S2x2048x1664, .f32⟩
  | .hbm, ⟨44, _⟩ => ⟨S_, .f32⟩
  | .hbm, ⟨45, _⟩ => ⟨S2x2050x1664, .f32⟩
  | .hbm, ⟨46, _⟩ => ⟨S2x2050x1664, .f32⟩
  | .hbm, ⟨47, _⟩ => ⟨S2x1x1664, .f32⟩
  | .hbm, ⟨48, _⟩ => ⟨S2x2048x1664, .f32⟩
  | .hbm, ⟨49, _⟩ => ⟨S2x1x1664, .f32⟩
  | .hbm, ⟨50, _⟩ => ⟨S4096x1664, .f32⟩
  | _, _ => ⟨S4096x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Proof.Row.lean ====
/-
  Extended-real arithmetic for the gradient of a softmax: a product with a nonnegative real distributes over every sum of extended
  reals, the exponentials of a row of real scores are positive reals, and the two spellings of the gradient of one row agree.
-/
module

public import Idealize.ShloMosaic.Lib.Pointwise
public import Idealize.ShloMosaic.Lib.IdealHost

@[expose] public section

noncomputable section

open Idealize.ShloMosaic

namespace Cert.Row

/-- A product with a nonnegative real goes inside a sum of extended reals, whatever they are. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The same with the factor on the right. -/
theorem sum_mul {ι : Type*} (s : Finset ι) (c : ℝ) (hc : 0 ≤ c) (f : ι → EReal) :
    (∑ i ∈ s, f i) * (c : EReal) = ∑ i ∈ s, f i * (c : EReal) := by
  rw [mul_comm, mul_sum s c hc]
  exact Finset.sum_congr rfl fun i _ => mul_comm _ _

/-- A nonnegative real times a difference. -/
theorem mul_sub (c : ℝ) (hc : 0 ≤ c) (a b : EReal) : (c : EReal) * (a - b) = c * a + -(c * b) := by
  rw [sub_eq_add_neg, EReal.left_distrib_of_nonneg_of_ne_top (EReal.coe_nonneg.mpr hc) (EReal.coe_ne_top c), mul_neg]

/-- A sum of real numbers is real. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, folded from `−∞`, is real (there is at least one). -/
theorem fold_max_coe {n : ℕ} (hn : 0 < n) (s : Fin n → EReal) (hs : ∀ j, ∃ r : ℝ, s j = r) :
    ∃ r : ℝ, Finset.univ.fold max (⊥ : EReal) s = r := by
  classical
  choose f hf using hs
  have key : ∀ t : Finset (Fin n), t.fold max (⊥ : EReal) s = ⊥ ∧ t = ∅ ∨ ∃ r : ℝ, t.fold max (⊥ : EReal) s = r := by
    intro t
    induction t using Finset.induction_on with
    | empty => exact Or.inl ⟨by simp, rfl⟩
    | insert a t ha ih =>
      right
      rw [Finset.fold_insert ha, hf a]
      rcases ih with ⟨h, _⟩ | ⟨r, h⟩
      · exact ⟨f a, by rw [h]; simp⟩
      · exact ⟨max (f a) r, by rw [h]; exact (EReal.coe_strictMono.monotone.map_max).symm⟩
  rcases key Finset.univ with ⟨_, h⟩ | h
  · exact absurd (Finset.mem_univ (⟨0, hn⟩ : Fin n)) (by rw [h]; simp)
  · exact h

/-- The exponentials of a row, taken after its maximum is subtracted. -/
def ex {n : ℕ} (s : Fin n → EReal) (j : Fin n) : EReal := Ideal.exp (s j - Finset.univ.fold max (⊥ : EReal) s)

/-- The reciprocal of their sum. -/
def rinv {n : ℕ} (s : Fin n → EReal) : EReal := Ideal.div 1 (∑ j, ex s j)

/-- The gradient of a row of scores, without its last factor `rinv s`. -/
def ds {n : ℕ} (s dp : Fin n → EReal) (j : Fin n) : EReal := ex s j * (dp j - rinv s * ∑ k, ex s k * dp k)

/-- The exponentials of real scores are nonnegative reals with a positive sum. -/
theorem ex_coe {n : ℕ} (hn : 0 < n) (s : Fin n → EReal) (hs : ∀ j, ∃ r : ℝ, s j = r) :
    ∃ f : Fin n → ℝ, (∀ j, 0 < f j) ∧ (∀ j, ex s j = f j) ∧ 0 < ∑ j, f j := by
  obtain ⟨M, hM⟩ := fold_max_coe hn s hs
  choose g hg using hs
  refine ⟨fun j => Real.exp (g j - M), fun j => Real.exp_pos _, fun j => ?_, ?_⟩
  · unfold ex
    rw [hM, hg j, ← EReal.coe_sub]
    rfl
  · exact Finset.sum_pos (fun j _ => Real.exp_pos _) ⟨⟨0, hn⟩, Finset.mem_univ _⟩

/-- A quotient by a positive real is a product with its reciprocal. -/
theorem div_pos (x : EReal) (l : ℝ) (hl : 0 < l) : Ideal.div x (l : EReal) = x * ((l⁻¹ : ℝ) : EReal) := by
  unfold Ideal.div
  rw [if_neg (by exact_mod_cast hl.ne'), EReal.coe_inv]

/-- The facts about one row that everything below reads: the reciprocal is a nonnegative real, a quotient by the sum is a product
    with it, and the reciprocal of the squared sum is its square. -/
theorem inv_coe {n : ℕ} (hn : 0 < n) (s : Fin n → EReal) (hs : ∀ j, ∃ r : ℝ, s j = r) :
    ∃ u : ℝ, 0 ≤ u ∧ rinv s = u ∧ (∀ x, Ideal.div x (∑ j, ex s j) = x * u)
      ∧ Ideal.div 1 ((∑ j, ex s j) * ∑ j, ex s j) = (u : EReal) * u := by
  obtain ⟨f, hf, he, hl⟩ := ex_coe hn s hs
  have hsum : ∑ j, ex s j = ((∑ j, f j : ℝ) : EReal) := by
    rw [← sum_coe]; exact Finset.sum_congr rfl fun j _ => he j
  refine ⟨(∑ j, f j)⁻¹, (inv_pos.mpr hl).le, ?_, fun x => ?_, ?_⟩
  · unfold rinv; rw [hsum, div_pos _ _ hl, one_mul]
  · rw [hsum, div_pos _ _ hl]
  · rw [hsum, ← EReal.coe_mul, div_pos _ _ (mul_pos hl hl), one_mul, mul_inv, EReal.coe_mul]

/-- The gradient of one row of scores as automatic differentiation writes it — the quotient rule, `x / l − Σ x (1 / l²) e`, times `e` —
    is the row's `ds` times the reciprocal. -/
theorem ds_quot {n : ℕ} (hn : 0 < n) (s dp : Fin n → EReal) (hs : ∀ j, ∃ r : ℝ, s j = r) (j : Fin n) :
    (Ideal.div (dp j) (∑ k, ex s k) + -(∑ k, dp k * Ideal.div 1 ((∑ k, ex s k) * ∑ k, ex s k) * ex s k)) * ex s j
      = rinv s * ds s dp j := by
  obtain ⟨u, hu, hi, hq, hq2⟩ := inv_coe hn s hs
  have hsum : ∑ k, dp k * ((u : EReal) * u) * ex s k = u * (u * ∑ k, ex s k * dp k) := by
    rw [mul_sum _ u hu, mul_sum _ u hu]
    exact Finset.sum_congr rfl fun k _ => by ac_rfl
  unfold ds
  rw [hq, hq2, hi, hsum, mul_comm (ex s j) (_ - _), ← mul_assoc (u : EReal) (_ - _), mul_sub u hu, mul_comm (dp j)]

end Cert.Row

end
-- ==== Proof.Spec.lean ====
/-
  The gradients of one attention call as plain sums over heads, query rows and key rows: what both programs are read as.
-/
module

public import proofs.«01_k».proof.Proof.Row

@[expose] public section

noncomputable section

open Idealize.ShloMosaic

namespace Cert.Att

open Cert.Row

/-- The scale of the scores, `64^(-1/2)`. -/
abbrev κ : EReal := Ideal.ofBits .f32 0x3E000000#32

/-- Row `t` of sequence `b`. -/
def row (b : Fin 2) (t : Fin 2048) : Fin 4096 := ⟨2048 * b + t, by omega⟩

/-- Lane `d` of query head `h`. -/
def lane (h : Fin 8) (d : Fin 64) : Fin 512 := ⟨64 * h + d, by omega⟩

/-- Lane `d` of the key head that query head `h` reads. -/
def klane (h : Fin 8) (d : Fin 64) : Fin 128 := ⟨64 * (h / 4) + d, by omega⟩

section
variable (Q : Fin 4096 → Fin 512 → EReal) (K V : Fin 4096 → Fin 128 → EReal) (O : Fin 4096 → Fin 512 → EReal)

/-- The scaled scores of a query row. -/
def S (b : Fin 2) (h : Fin 8) (t : Fin 2048) (j : Fin 2048) : EReal :=
  ∑ d : Fin 64, Q (row b t) (lane h d) * κ * K (row b j) (klane h d)

/-- The gradient of a row of softmax weights. -/
def P (b : Fin 2) (h : Fin 8) (t : Fin 2048) (j : Fin 2048) : EReal :=
  ∑ d : Fin 64, O (row b t) (lane h d) * V (row b j) (klane h d)

/-- The gradient of `q` before its scale. -/
def gQ (b : Fin 2) (h : Fin 8) (t : Fin 2048) (d : Fin 64) : EReal :=
  (∑ j, ds (S Q K b h t) (P V O b h t) j * K (row b j) (klane h d)) * rinv (S Q K b h t)

/-- What one query head adds to the gradient of `k`. -/
def gK (b : Fin 2) (h : Fin 8) (j : Fin 2048) (d : Fin 64) : EReal :=
  ∑ t, ds (S Q K b h t) (P V O b h t) j * (Q (row b t) (lane h d) * κ * rinv (S Q K b h t))

/-- What one query head adds to the gradient of `v`. -/
def gV (b : Fin 2) (h : Fin 8) (j : Fin 2048) (d : Fin 64) : EReal :=
  ∑ t, ex (S Q K b h t) j * (O (row b t) (lane h d) * rinv (S Q K b h t))

/-- A scale that is a nonnegative real. -/
theorem κ_coe : ∃ c : ℝ, 0 ≤ c ∧ κ = (c : EReal) := by
  refine ⟨(1 : ℝ) / 8, by norm_num, ?_⟩
  simp [κ, Ideal.ofBits, Ideal.ieee]
  have h : ((8388608 : EReal)) = ((8388608 : ℝ) : EReal) := rfl
  first | (rw [h, ← EReal.coe_mul]; norm_num) | (rw [← EReal.coe_mul]; norm_num)

/-- The scores of finite rows are real. -/
theorem S_coe (hQ : ∀ r l, ∃ x : ℝ, Q r l = x) (hK : ∀ r l, ∃ x : ℝ, K r l = x) (b : Fin 2) (h : Fin 8) (t j : Fin 2048) :
    ∃ x : ℝ, S Q K b h t j = x := by
  choose q hq using hQ
  choose k hk using hK
  obtain ⟨c, hc, e⟩ := κ_coe
  refine ⟨∑ d : Fin 64, q (row b t) (lane h d) * c * k (row b j) (klane h d), ?_⟩
  rw [S, ← sum_coe]
  refine Finset.sum_congr rfl fun d _ => ?_
  rw [hq, hk, e, ← EReal.coe_mul, ← EReal.coe_mul]

end

/-- Lane `d` of query head `4 a + g`. -/
abbrev hd (a : Fin 2) (g : Fin 4) : Fin 8 := ⟨4 * a + g, by omega⟩

/-- The sequence, the row within it, the head and the lane of an element of an array. -/
abbrev bq (r : Fin 4096) : Fin 2 := ⟨r / 2048, by omega⟩
abbrev tq (r : Fin 4096) : Fin 2048 := ⟨r % 2048, by omega⟩
abbrev aQ (l : Fin 512) : Fin 2 := ⟨l / 256, by omega⟩
abbrev gQQ (l : Fin 512) : Fin 4 := ⟨l / 64 % 4, by omega⟩
abbrev dQ (l : Fin 512) : Fin 64 := ⟨l % 64, by omega⟩
abbrev aK (l : Fin 128) : Fin 2 := ⟨l / 64, by omega⟩
abbrev dK (l : Fin 128) : Fin 64 := ⟨l % 64, by omega⟩

end Cert.Att

end
-- ==== Proof.Pay.lean ====
/-
  The values the attention gradient's body computes, read at an index: the exponentials of a side's scores, the reciprocal of a
  row's sum, the gradient of a row of scores, and the three blocks the body stores.
-/
module

public import proofs.«01_k».proof.Proof.Row
public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Row

/-- The scores of query row `r` against the keys of one side: products of rows of 128 lanes. -/
def sc (q : FVec Ideal S1024x128 .bf16) (k : FVec Ideal S1x2048x128 .bf16) (r : Fin 1024) (j : Fin 2048) : EReal :=
  ∑ l : Fin 128, q (ix2 r l) * k (ix3 0 j l)

/-- The same products for the gradient of the output against the values. -/
def dpr (d : FVec Ideal S1024x128 .f32) (v : FVec Ideal S1x2048x128 .bf16) (r : Fin 1024) (j : Fin 2048) : EReal :=
  ∑ l : Fin 128, d (ix2 r l) * v (ix3 0 j l)

/-- The word of `−∞` reads as `⊥`. -/
theorem ofBits_ninf : Ideal.ofBits .f32 0xFF800000#32 = ⊥ := by simp [Ideal.ofBits, Ideal.ieee]

theorem pay16 (q : FVec Ideal S1024x128 .bf16) (k : FVec Ideal S1x2048x128 .bf16) (r : Fin 1024) (j : Fin 2048) :
    k0_pay16 (F := Ideal) q k (ix2 r j) = ex (sc q k r) j := by
  pointwise [k0_pay16, k0_pay9, k0_pay15, ex, sc, ofBits_ninf]

theorem pay17 (q : FVec Ideal S1024x128 .bf16) (k : FVec Ideal S1x2048x128 .bf16) (r : Fin 1024) :
    k0_pay17 (F := Ideal) q k (ix2 r 0) = rinv (sc q k r) := by
  pointwise [k0_pay17, pay16, rinv]

theorem pay18 (q : FVec Ideal S1024x128 .bf16) (d : FVec Ideal S1024x128 .f32) (k v : FVec Ideal S1x2048x128 .bf16)
    (r : Fin 1024) (j : Fin 2048) :
    k0_pay18 (F := Ideal) q d k v (ix2 r j) = ds (sc q k r) (dpr d v r) j := by
  pointwise [k0_pay18, pay16, pay17, ds, dpr]

theorem pay19 (q : FVec Ideal S1024x128 .bf16) (d : FVec Ideal S1024x128 .f32) (k v : FVec Ideal S1x2048x128 .bf16)
    (r : Fin 1024) (l : Fin 128) :
    k0_pay19 (F := Ideal) q d k v (ix2 r l) = ∑ j, ds (sc q k r) (dpr d v r) j * k (ix3 0 j l) := by
  pointwise [k0_pay19, pay18, k0_pay15]

theorem pay24 (q : FVec Ideal S1024x128 .bf16) (k : FVec Ideal S1x2048x128 .bf16) (r : Fin 1024) (j : Fin 2048) :
    k0_pay24 (F := Ideal) (k0_pay9 q) k (ix2 r j) = ex (sc q k r) j := by
  pointwise [k0_pay24, k0_pay9, k0_pay23, ex, sc, ofBits_ninf]

theorem pay25 (q : FVec Ideal S1024x128 .bf16) (k : FVec Ideal S1x2048x128 .bf16) (r : Fin 1024) :
    k0_pay25 (F := Ideal) (k0_pay9 q) k (ix2 r 0) = rinv (sc q k r) := by
  pointwise [k0_pay25, pay24, rinv]

theorem pay26 (d : FVec Ideal S1024x128 .f32) (v : FVec Ideal S1x2048x128 .bf16) (r : Fin 1024) (j : Fin 2048) :
    k0_pay26 (F := Ideal) d v (ix2 r j) = dpr d v r j := by
  pointwise [k0_pay26, dpr]

theorem pay27 (q : FVec Ideal S1024x128 .bf16) (d : FVec Ideal S1024x128 .f32) (k v : FVec Ideal S1x2048x128 .bf16)
    (r : Fin 1024) :
    k0_pay27 (F := Ideal) (k0_pay9 q) d k v (ix2 r 0) = rinv (sc q k r) * ∑ j, ex (sc q k r) j * dpr d v r j := by
  pointwise [k0_pay27, pay24, pay25, pay26]

theorem pay1 (q : FVec Ideal S1024x128 .bf16) (d : FVec Ideal S1024x128 .f32) (k v : FVec Ideal S1x2048x128 .bf16)
    (r : Fin 1024) (j : Fin 2048) :
    k0_pay1 (F := Ideal) (k0_pay24 (k0_pay9 q) k) (k0_pay26 d v) (k0_pay27 (k0_pay9 q) d k v) (ix2 r j)
      = ds (sc q k r) (dpr d v r) j := by
  pointwise [k0_pay1, pay24, pay26, pay27, ds]

variable (q : FVec Ideal S1024x128 .bf16) (d : FVec Ideal S1024x128 .f32) (kl kr vl vr : FVec Ideal S1x2048x128 .bf16)

/-- The block of the gradient of `q`. -/
abbrev qBlk : FVec Ideal S1024x128 .f32 :=
  k0_pay2 (F := Ideal) (k0_pay20 k0_pay11 (k0_pay17 q kl) (k0_pay19 q d kl vl)) (k0_pay23 kr) (k0_pay24 (k0_pay9 q) kr)
    (k0_pay25 (k0_pay9 q) kr) (k0_pay26 d vr) (k0_pay27 (k0_pay9 q) d kr vr)

theorem qBlk_at (r : Fin 1024) (l : Fin 128) :
    qBlk q d kl kr vl vr (ix2 r l)
      = (∑ j, ds (sc q kl r) (dpr d vl r) j * kl (ix3 0 j l)) * rinv (sc q kl r)
        + (∑ j, ds (sc q kr r) (dpr d vr r) j * kr (ix3 0 j l)) * rinv (sc q kr r) := by
  pointwise [qBlk, k0_pay2, k0_pay20, k0_pay11, pay17, pay19, k0_pay23, pay25, pay1]

/-- A lane's mask is the comparison of its number with 64. -/
theorem mask_eq : ∀ l : Fin 128, IntOp.cmpi .slt (BitVec.ofNat 32 (l : ℕ)) 64#32 = if (l : ℕ) < 64 then 1#1 else 0#1 := by
  decide +kernel

theorem mask_left (l : Fin 128) (a b : EReal) :
    Scalar.select (IntOp.cmpi .slt (BitVec.ofNat 32 (l : ℕ)) 64#32) a b = if (l : ℕ) < 64 then a else b := by
  rw [mask_eq]; by_cases h : (l : ℕ) < 64 <;> simp [h, Scalar.select]

theorem mask_right (l : Fin 128) (a b : EReal) :
    Scalar.select (IntOp.xori (IntOp.cmpi .slt (BitVec.ofNat 32 (l : ℕ)) 64#32) 1#1) a b = if (l : ℕ) < 64 then b else a := by
  rw [mask_eq]; by_cases h : (l : ℕ) < 64 <;> simp [h, Scalar.select, IntOp.xori]

theorem pay9 (r : Fin 1024) (l : Fin 128) : k0_pay9 (F := Ideal) q (ix2 r l) = q (ix2 r l) := by
  pointwise [k0_pay9]

/-- The block of the gradient of the keys, and of the values, that one point contributes. -/
abbrev kBlk : FVec Ideal S2048x128 .f32 :=
  k0_pay3 (F := Ideal) (k0_pay9 q) k0_pay14 (k0_pay21 (k0_pay9 q) k0_pay10 k0_pay12 (k0_pay17 q kl) (k0_pay18 q d kl vl))
    (k0_pay24 (k0_pay9 q) kr) (k0_pay25 (k0_pay9 q) kr) (k0_pay26 d vr) (k0_pay27 (k0_pay9 q) d kr vr)

theorem kBlk_at (j : Fin 2048) (l : Fin 128) :
    kBlk q d kl kr vl vr (ix2 j l)
      = (∑ r, if (l : ℕ) < 64 then ds (sc q kl r) (dpr d vl r) j * (q (ix2 r l) * rinv (sc q kl r)) else 0)
        + (∑ r, if (l : ℕ) < 64 then 0 else ds (sc q kr r) (dpr d vr r) j * (q (ix2 r l) * rinv (sc q kr r))) := by
  pointwise [kBlk, k0_pay3, k0_pay21, k0_pay14, k0_pay10, k0_pay12, pay9, pay17, pay18, pay25, pay1]
  simp only [mask_left, mask_right]

abbrev vBlk : FVec Ideal S2048x128 .f32 :=
  k0_pay4 (F := Ideal) d k0_pay14 (k0_pay22 d k0_pay10 k0_pay13 (k0_pay16 q kl) (k0_pay17 q kl))
    (k0_pay24 (k0_pay9 q) kr) (k0_pay25 (k0_pay9 q) kr)

theorem vBlk_at (j : Fin 2048) (l : Fin 128) :
    vBlk q d kl kr (ix2 j l)
      = (∑ r, if (l : ℕ) < 64 then ex (sc q kl r) j * (d (ix2 r l) * rinv (sc q kl r)) else 0)
        + (∑ r, if (l : ℕ) < 64 then 0 else ex (sc q kr r) j * (d (ix2 r l) * rinv (sc q kr r))) := by
  pointwise [vBlk, k0_pay4, k0_pay22, k0_pay14, k0_pay10, k0_pay13, pay16, pay17, pay25, pay24]
  simp only [mask_left, mask_right]

end Cert.KernelIdeal.Value

end
-- ==== Proof.Host.lean ====
/-
  The host operations around the attention gradient's call: what they leave in the arrays its windows read, and what they make of the
  three arrays it writes.
-/
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.StableHlo.ReadAt
public import proofs.«01_k».proof.Proof.Pay

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The scale of the scores. -/
abbrev κ : EReal := Ideal.ofBits .f32 0x3E000000#32

theorem V_q (c : Dev nD) (r : Fin 4096) (l : Fin 512) :
    (show EReal from V m c main_v2 (ix2 r l)) = (show EReal from m ((c.tc : Thread nD τ).loc main_arg0) (ix2 r l)) * κ := by
  unfold V V0
  simp only [List.flatten_cons, List.flatten_nil, List.append_nil]
  after_reads_at

/-- Block `s` of the padded array, read at a row and a lane: two heads of 64 lanes, each laid out at the left and at the right. -/
def padAt (K : FVec Ideal S4096x128 .f32) (s : Fin 4) (r : Fin 4096) (l : Fin 128) : EReal :=
  if ((s : ℕ) % 2 = 0 ↔ (l : ℕ) < 64) then K (ix2 r ⟨64 * ((s : ℕ) / 2) + (l : ℕ) % 64, by omega⟩) else 0

/-- The four blocks, each by itself. -/
theorem concat4 {α : Type} {sh : Shape} {d : Fin sh.rank} {S0 S1 S2 S3 : Shape} {a0 b0 : S0.Idx → α} {a1 b1 : S1.Idx → α}
    {a2 b2 : S2.Idx → α} {a3 b3 : S3.Idx → α} {hp}
    (h0 : a0 = b0) (h1 : a1 = b1) (h2 : a2 = b2) (h3 : a3 = b3) :
    concatenate sh d [⟨S0, a0⟩, ⟨S1, a1⟩, ⟨S2, a2⟩, ⟨S3, a3⟩] hp = concatenate sh d [⟨S0, b0⟩, ⟨S1, b1⟩, ⟨S2, b2⟩, ⟨S3, b3⟩] hp := by
  subst h0 h1 h2 h3; rfl

/-- The two pieces, each by itself. -/
theorem concat2 {α : Type} {sh : Shape} {d : Fin sh.rank} {S0 S1 : Shape} {a0 b0 : S0.Idx → α} {a1 b1 : S1.Idx → α} {hp}
    (h0 : a0 = b0) (h1 : a1 = b1) :
    concatenate sh d [⟨S0, a0⟩, ⟨S1, a1⟩] hp = concatenate sh d [⟨S0, b0⟩, ⟨S1, b1⟩] hp := by
  subst h0 h1; rfl

/-- One block as a function of its index. -/
abbrev padBlk (K : FVec Ideal S4096x128 .f32) (s : Fin 4) : FVec Ideal S1x4096x128 .bf16 := fun i => padAt K s (i 1) (i 2)

section
variable (K : FVec Ideal S4096x128 .f32) (a : Fin 4096) (b : Fin 128)

theorem pad0 : Scalar.select (IntOp.cmpi CmpIPredicate.slt (BitVec.ofNat 32 (b : ℕ)) 64#32) (K (ix2 a b) : EReal) 0 =
    if True ↔ (b : ℕ) < 64 then K (ix2 a ⟨(b : ℕ) % 64, by omega⟩) else 0 := by
  rw [mask_left]
  by_cases h : (b : ℕ) < 64
  · have e : (⟨(b : ℕ) % 64, by omega⟩ : Fin 128) = b := Fin.ext (Nat.mod_eq_of_lt h)
    simp [h, e]
  · simp [h]

theorem pad3 : Scalar.select (IntOp.cmpi CmpIPredicate.slt (BitVec.ofNat 32 (b : ℕ)) 64#32) 0 (K (ix2 a b) : EReal) =
    if False ↔ (b : ℕ) < 64 then K (ix2 a ⟨64 + (b : ℕ) % 64, by omega⟩) else 0 := by
  rw [mask_left]
  by_cases h : (b : ℕ) < 64
  · simp [h]
  · have e : (⟨64 + (b : ℕ) % 64, by omega⟩ : Fin 128) = b := Fin.ext (by show 64 + (b : ℕ) % 64 = b; omega)
    simp [h, e]

theorem pad1 : (if h : (b : ℕ) < 64 then
      Scalar.select (IntOp.cmpi CmpIPredicate.slt (BitVec.ofNat 32 (64 + (b : ℕ))) 64#32) (K (ix2 a ⟨64 + (b : ℕ), by omega⟩) : EReal) 0
    else
      Scalar.select (IntOp.cmpi CmpIPredicate.slt (BitVec.ofNat 32 ((b : ℕ) - 64)) 64#32) (K (ix2 a ⟨(b : ℕ) - 64, by omega⟩)) 0) =
    if False ↔ (b : ℕ) < 64 then K (ix2 a ⟨(b : ℕ) % 64, by omega⟩) else 0 := by
  by_cases h : (b : ℕ) < 64
  · have := mask_left ⟨64 + (b : ℕ), by omega⟩ (K (ix2 a ⟨64 + (b : ℕ), by omega⟩)) 0
    simp only [h, dite_true]; rw [this]; simp
  · have e : (⟨(b : ℕ) - 64, by omega⟩ : Fin 128) = ⟨(b : ℕ) % 64, by omega⟩ := Fin.ext (by show (b : ℕ) - 64 = b % 64; omega)
    have := mask_left ⟨(b : ℕ) - 64, by omega⟩ (K (ix2 a ⟨(b : ℕ) - 64, by omega⟩)) 0
    simp only [h, dite_false]; rw [this, e]; simp; omega

theorem pad2 : (if h : (b : ℕ) < 64 then
      Scalar.select (IntOp.cmpi CmpIPredicate.slt (BitVec.ofNat 32 (64 + (b : ℕ))) 64#32) 0 (K (ix2 a ⟨64 + (b : ℕ), by omega⟩) : EReal)
    else
      Scalar.select (IntOp.cmpi CmpIPredicate.slt (BitVec.ofNat 32 ((b : ℕ) - 64)) 64#32) 0 (K (ix2 a ⟨(b : ℕ) - 64, by omega⟩))) =
    if True ↔ (b : ℕ) < 64 then K (ix2 a ⟨64 + (b : ℕ) % 64, by omega⟩) else 0 := by
  by_cases h : (b : ℕ) < 64
  · have e : (⟨64 + (b : ℕ), by omega⟩ : Fin 128) = ⟨64 + (b : ℕ) % 64, by omega⟩ := Fin.ext (by show 64 + (b : ℕ) = 64 + b % 64; omega)
    have := mask_left ⟨64 + (b : ℕ), by omega⟩ 0 (K (ix2 a ⟨64 + (b : ℕ), by omega⟩))
    simp only [h, dite_true]; rw [this, e]; simp
  · have := mask_left ⟨(b : ℕ) - 64, by omega⟩ 0 (K (ix2 a ⟨(b : ℕ) - 64, by omega⟩))
    simp only [h, dite_false]; rw [this]; simp; omega

end

theorem ex_ix3 (x : S1x4096x128.Idx) : ∃ (z : Fin 1) (a : Fin 4096) (b : Fin 128), x = ix3 z a b :=
  ⟨x 0, x 1, x 2, by ext i; fin_cases i <;> rfl⟩

set_option maxHeartbeats 6400000 in
theorem V_k (c : Dev nD) (s : Fin 4) (r : Fin 4096) (l : Fin 128) :
    V m c main_v18 (ix3 s r l) = padAt (m ((c.tc : Thread nD τ).loc main_arg1)) s r l := by
  unfold V V0
  simp only [List.flatten_cons, List.flatten_nil, List.append_nil]
  after_reads_simp
  refine (congrFun (concat4 (b0 := padBlk (m ((c.tc : Thread nD τ).loc main_arg1)) 0) (b1 := padBlk (m ((c.tc : Thread nD τ).loc main_arg1)) 1)
    (b2 := padBlk (m ((c.tc : Thread nD τ).loc main_arg1)) 2) (b3 := padBlk (m ((c.tc : Thread nD τ).loc main_arg1)) 3) ?_ ?_ ?_ ?_) (ix3 s r l)).trans ?_
  · funext x
    obtain ⟨z, a, b, rfl⟩ := ex_ix3 x
    change (StableHlo.unary _ _ _ _ _).result _ (Proc.tc.devRef main_v14) _ = _
    after_reads_at
    pointwise [id_eq, padAt]
    exact pad0 (m ((c.tc : Thread nD τ).loc main_arg1)) a b
  · funext x
    obtain ⟨z, a, b, rfl⟩ := ex_ix3 x
    change (StableHlo.unary _ _ _ _ _).result _ (Proc.tc.devRef main_v15) _ = _
    after_reads_at
    after_reads_at
    pointwise [id_eq, padAt]
    exact pad1 (m ((c.tc : Thread nD τ).loc main_arg1)) a b
  · funext x
    obtain ⟨z, a, b, rfl⟩ := ex_ix3 x
    change (StableHlo.unary _ _ _ _ _).result _ (Proc.tc.devRef main_v16) _ = _
    after_reads_at
    after_reads_at
    pointwise [id_eq, padAt]
    exact pad2 (m ((c.tc : Thread nD τ).loc main_arg1)) a b
  · funext x
    obtain ⟨z, a, b, rfl⟩ := ex_ix3 x
    change (StableHlo.unary _ _ _ _ _).result _ (Proc.tc.devRef main_v17) _ = _
    after_reads_at
    pointwise [id_eq, padAt]
    exact pad3 (m ((c.tc : Thread nD τ).loc main_arg1)) a b
  · pointwise [padAt]
    obtain ⟨s, hs⟩ := s
    interval_cases s <;> simp

set_option maxHeartbeats 6400000 in
theorem V_v (c : Dev nD) (s : Fin 4) (r : Fin 4096) (l : Fin 128) :
    V m c main_v34 (ix3 s r l) = padAt (m ((c.tc : Thread nD τ).loc main_arg2)) s r l := by
  unfold V V0
  simp only [List.flatten_cons, List.flatten_nil, List.append_nil]
  after_reads_simp
  refine (congrFun (concat4 (b0 := padBlk (m ((c.tc : Thread nD τ).loc main_arg2)) 0) (b1 := padBlk (m ((c.tc : Thread nD τ).loc main_arg2)) 1)
    (b2 := padBlk (m ((c.tc : Thread nD τ).loc main_arg2)) 2) (b3 := padBlk (m ((c.tc : Thread nD τ).loc main_arg2)) 3) ?_ ?_ ?_ ?_) (ix3 s r l)).trans ?_
  · funext x
    obtain ⟨z, a, b, rfl⟩ := ex_ix3 x
    change (StableHlo.unary _ _ _ _ _).result _ (Proc.tc.devRef main_v30) _ = _
    after_reads_at
    pointwise [id_eq, padAt]
    exact pad0 (m ((c.tc : Thread nD τ).loc main_arg2)) a b
  · funext x
    obtain ⟨z, a, b, rfl⟩ := ex_ix3 x
    change (StableHlo.unary _ _ _ _ _).result _ (Proc.tc.devRef main_v31) _ = _
    after_reads_at
    after_reads_at
    pointwise [id_eq, padAt]
    exact pad1 (m ((c.tc : Thread nD τ).loc main_arg2)) a b
  · funext x
    obtain ⟨z, a, b, rfl⟩ := ex_ix3 x
    change (StableHlo.unary _ _ _ _ _).result _ (Proc.tc.devRef main_v32) _ = _
    after_reads_at
    after_reads_at
    pointwise [id_eq, padAt]
    exact pad2 (m ((c.tc : Thread nD τ).loc main_arg2)) a b
  · funext x
    obtain ⟨z, a, b, rfl⟩ := ex_ix3 x
    change (StableHlo.unary _ _ _ _ _).result _ (Proc.tc.devRef main_v33) _ = _
    after_reads_at
    pointwise [id_eq, padAt]
    exact pad3 (m ((c.tc : Thread nD τ).loc main_arg2)) a b
  · pointwise [padAt]
    obtain ⟨s, hs⟩ := s
    interval_cases s <;> simp

end Cert.KernelIdeal.Value

end
-- ==== Proof.Blk.lean ====
/-
  The blocks the attention gradient's grid points read, and what a point computes from them, in terms of the arguments.
-/
module

public import proofs.«01_k».proof.Proof.Spec
public import proofs.«01_k».proof.Proof.Host

@[expose] public section

set_option maxRecDepth 16384

noncomputable section

open Idealize.ShloMosaic Idealize.ShloMosaic.TcCoe Idealize.SL.Sem

namespace Cert.KernelIdeal.Value

open Cert.KernelIdeal Cert.KernelIdeal.Gen Cert.Row Cert.Att

/-- A product of 128 lanes against a padded block is the product of the 64 lanes the block holds. -/
theorem lanes_left (f : Fin 128 → EReal) (g : Fin 64 → EReal) :
    (∑ l : Fin 128, f l * (if (l : ℕ) < 64 then g ⟨l % 64, by omega⟩ else 0)) = ∑ d : Fin 64, f ⟨d, by omega⟩ * g d := by
  rw [Fin.sum_univ_two_halves 64 64 rfl]
  have h1 : ∀ k : Fin 64, (⟨(k : ℕ) % 64, by omega⟩ : Fin 64) = k := fun k => Fin.ext (Nat.mod_eq_of_lt k.isLt)
  have h2 : ∀ k : Fin 64, ¬ 64 + (k : ℕ) < 64 := fun k => by omega
  simp [h1]

theorem lanes_right (f : Fin 128 → EReal) (g : Fin 64 → EReal) :
    (∑ l : Fin 128, f l * (if (l : ℕ) < 64 then 0 else g ⟨l % 64, by omega⟩)) = ∑ d : Fin 64, f ⟨64 + d, by omega⟩ * g d := by
  rw [Fin.sum_univ_two_halves 64 64 rfl]
  have h1 : ∀ k : Fin 64, (⟨(k : ℕ) % 64, by omega⟩ : Fin 64) = k := fun k => Fin.ext (Nat.mod_eq_of_lt k.isLt)
  simp [h1]

/-- The grid point's numbers: the sequence, the pair of heads, the block of rows. -/
abbrev bt (t : Fin cfg0.N) : Fin 2 := ⟨t / 8, by have := lt_of_lt_of_eq t.isLt (show cfg0.N = 16 from N_0); omega⟩
abbrev pt (t : Fin cfg0.N) : Fin 4 := ⟨t / 2 % 4, by omega⟩
abbrev it (t : Fin cfg0.N) : Fin 2 := ⟨t % 2, by omega⟩

theorem idx : ∀ t : Fin cfg0.N,
    win0_0.index t = ![(t : ℕ) / 8 * 2 + t % 2, (t : ℕ) / 2 % 4] ∧
    win0_1.index t = ![2 * ((t : ℕ) / 2 % 4 / 2), (t : ℕ) / 8, 0] ∧
    win0_2.index t = ![2 * ((t : ℕ) / 2 % 4 / 2) + 1, (t : ℕ) / 8, 0] ∧
    win0_3.index t = ![2 * ((t : ℕ) / 2 % 4 / 2), (t : ℕ) / 8, 0] ∧
    win0_4.index t = ![2 * ((t : ℕ) / 2 % 4 / 2) + 1, (t : ℕ) / 8, 0] ∧
    win0_5.index t = ![(t : ℕ) / 8 * 2 + t % 2, (t : ℕ) / 2 % 4] ∧
    win0_6.index t = ![(t : ℕ) / 8 * 2 + t % 2, (t : ℕ) / 2 % 4] ∧
    win0_7.index t = ![(t : ℕ) / 2 % 4, (t : ℕ) / 8, 0] ∧
    win0_8.index t = ![(t : ℕ) / 2 % 4, (t : ℕ) / 8, 0] :=
  (by decide +kernel : ∀ t : Fin grid0.N, _)

variable (m : (ℓ : Loc nD τ sig) → Buf (Elt Ideal) ℓ) (c : Dev nD)

/-- The arguments as functions of a row and a lane. -/
abbrev aq : Fin 4096 → Fin 512 → EReal := fun r l => m ((c.tc : Thread nD τ).loc main_arg0) (ix2 r l)
abbrev ak : Fin 4096 → Fin 128 → EReal := fun r l => m ((c.tc : Thread nD τ).loc main_arg1) (ix2 r l)
abbrev av : Fin 4096 → Fin 128 → EReal := fun r l => m ((c.tc : Thread nD τ).loc main_arg2) (ix2 r l)
abbrev ad : Fin 4096 → Fin 512 → EReal := fun r l => m ((c.tc : Thread nD τ).loc main_arg3) (ix2 r l)

/-- Row `r` of the point's block of query rows; lane `l` of its pair of heads. -/
abbrev rt (t : Fin cfg0.N) (r : Fin 1024) : Fin 2048 := ⟨1024 * it t + r, by have := (it t).isLt; omega⟩
abbrev lt (t : Fin cfg0.N) (l : Fin 128) : Fin 512 := ⟨128 * pt t + l, by have := (pt t).isLt; omega⟩

theorem emb0 (t : Fin cfg0.N) (r : Fin 1024) (l : Fin 128) :
    (win0_0.blk t).view.emb (ix2 r l) = ix2 (row (bt t) (rt t r)) (lt t l) := by
  blk_ext [idx t, row]

theorem emb1 (t : Fin cfg0.N) (j : Fin 2048) (l : Fin 128) :
    (win0_1.blk t).view.emb (ix3 0 j l) = ix3 ⟨2 * (pt t / 2), by omega⟩ (row (bt t) j) l := by
  blk_ext [idx t, row]

theorem emb2 (t : Fin cfg0.N) (j : Fin 2048) (l : Fin 128) :
    (win0_2.blk t).view.emb (ix3 0 j l) = ix3 ⟨2 * (pt t / 2) + 1, by omega⟩ (row (bt t) j) l := by
  blk_ext [idx t, row]

theorem emb3 (t : Fin cfg0.N) (j : Fin 2048) (l : Fin 128) :
    (win0_3.blk t).view.emb (ix3 0 j l) = ix3 ⟨2 * (pt t / 2), by omega⟩ (row (bt t) j) l := by
  blk_ext [idx t, row]

theorem emb4 (t : Fin cfg0.N) (j : Fin 2048) (l : Fin 128) :
    (win0_4.blk t).view.emb (ix3 0 j l) = ix3 ⟨2 * (pt t / 2) + 1, by omega⟩ (row (bt t) j) l := by
  blk_ext [idx t, row]

theorem emb5 (t : Fin cfg0.N) (r : Fin 1024) (l : Fin 128) :
    (win0_5.blk t).view.emb (ix2 r l) = ix2 (row (bt t) (rt t r)) (lt t l) := by
  blk_ext [idx t, row]

theorem blk0 (t : Fin cfg0.N) (r : Fin 1024) (l : Fin 128) :
    (show EReal from iblk m c 0 t (ix2 r l)) = aq m c (row (bt t) (rt t r)) (lt t l) * κ := by
  blk_simp [iblk]
  rw [emb0]
  exact V_q m c _ _

theorem blk1 (t : Fin cfg0.N) (j : Fin 2048) (l : Fin 128) :
    (show EReal from iblk m c 1 t (ix3 0 j l)) = padAt (m ((c.tc : Thread nD τ).loc main_arg1)) ⟨2 * (pt t / 2), by omega⟩ (row (bt t) j) l := by
  blk_simp [iblk]
  rw [emb1]
  exact V_k m c _ _ _

theorem blk2 (t : Fin cfg0.N) (j : Fin 2048) (l : Fin 128) :
    (show EReal from iblk m c 2 t (ix3 0 j l)) = padAt (m ((c.tc : Thread nD τ).loc main_arg1)) ⟨2 * (pt t / 2) + 1, by omega⟩ (row (bt t) j) l := by
  blk_simp [iblk]
  rw [emb2]
  exact V_k m c _ _ _

theorem blk3 (t : Fin cfg0.N) (j : Fin 2048) (l : Fin 128) :
    (show EReal from iblk m c 3 t (ix3 0 j l)) = padAt (m ((c.tc : Thread nD τ).loc main_arg2)) ⟨2 * (pt t / 2), by omega⟩ (row (bt t) j) l := by
  blk_simp [iblk]
  rw [emb3]
  exact V_v m c _ _ _

theorem blk4 (t : Fin cfg0.N) (j : Fin 2048) (l : Fin 128) :
    (show EReal from iblk m c 4 t (ix3 0 j l)) = padAt (m ((c.tc : Thread nD τ).loc main_arg2)) ⟨2 * (pt t / 2) + 1, by omega⟩ (row (bt t) j) l := by
  blk_simp [iblk]
  rw [emb4]
  exact V_v m c _ _ _

theorem blk5 (t : Fin cfg0.N) (r : Fin 1024) (l : Fin 128) :
    (show EReal from iblk m c 5 t (ix2 r l)) = ad m c (row (bt t) (rt t r)) (lt t l) := by
  blk_simp [iblk]
  rw [emb5, V_main_arg3]

/-- The two heads of the point's pair. -/
abbrev hl (t : Fin cfg0.N) : Fin 8 := ⟨2 * pt t, by have := (pt t).isLt; omega⟩
abbrev hr (t : Fin cfg0.N) : Fin 8 := ⟨2 * pt t + 1, by have := (pt t).isLt; omega⟩

theorem pad_left (K : FVec Ideal S4096x128 .f32) (t : Fin cfg0.N) (r : Fin 4096) (l : Fin 128) :
    padAt K ⟨2 * (pt t / 2), by omega⟩ r l = if (l : ℕ) < 64 then K (ix2 r (klane (hl t) ⟨l % 64, by omega⟩)) else 0 := by
  have h : (2 * ((pt t : ℕ) / 2)) % 2 = 0 := by omega
  have e : (⟨64 * (2 * ((pt t : ℕ) / 2) / 2) + (l : ℕ) % 64, by have := (pt t).isLt; omega⟩ : Fin 128) = klane (hl t) ⟨l % 64, by omega⟩ :=
    Fin.ext (by simp only [klane, hl]; omega)
  simp only [padAt, h, true_iff, e]

theorem pad_right (K : FVec Ideal S4096x128 .f32) (t : Fin cfg0.N) (r : Fin 4096) (l : Fin 128) :
    padAt K ⟨2 * (pt t / 2) + 1, by omega⟩ r l = if (l : ℕ) < 64 then 0 else K (ix2 r (klane (hr t) ⟨l % 64, by omega⟩)) := by
  have h : ¬ (2 * ((pt t : ℕ) / 2) + 1) % 2 = 0 := by omega
  have e : (⟨64 * ((2 * ((pt t : ℕ) / 2) + 1) / 2) + (l : ℕ) % 64, by have := (pt t).isLt; omega⟩ : Fin 128) = klane (hr t) ⟨l % 64, by omega⟩ :=
    Fin.ext (by simp only [klane, hr]; omega)
  simp only [padAt, h, false_iff, e]
  by_cases hl : (l : ℕ) < 64 <;> simp [hl]

theorem lt_left (t : Fin cfg0.N) (d : Fin 64) : lt t ⟨d, by omega⟩ = lane (hl t) d := Fin.ext (by simp only [lane, hl]; omega)
theorem lt_right (t : Fin cfg0.N) (d : Fin 64) : lt t ⟨64 + d, by omega⟩ = lane (hr t) d := Fin.ext (by simp only [lane, hr]; omega)

theorem sc_left (t : Fin cfg0.N) (r : Fin 1024) : sc (iblk m c 0 t) (iblk m c 1 t) r = S (aq m c) (ak m c) (bt t) (hl t) (rt t r) := by
  funext j
  refine (Finset.sum_congr rfl fun l _ => by rw [show (iblk m c 0 t (ix2 r l) : EReal) = _ from blk0 m c t r l, show (iblk m c 1 t (ix3 0 j l) : EReal) = _ from blk1 m c t j l, pad_left]).trans ?_
  rw [lanes_left (fun l => aq m c (row (bt t) (rt t r)) (lt t l) * κ) (fun d => ak m c (row (bt t) j) (klane (hl t) d))]
  simp only [lt_left, S]

theorem sc_right (t : Fin cfg0.N) (r : Fin 1024) : sc (iblk m c 0 t) (iblk m c 2 t) r = S (aq m c) (ak m c) (bt t) (hr t) (rt t r) := by
  funext j
  refine (Finset.sum_congr rfl fun l _ => by rw [show (iblk m c 0 t (ix2 r l) : EReal) = _ from blk0 m c t r l, show (iblk m c 2 t (ix3 0 j l) : EReal) = _ from blk2 m c t j l, pad_right]).trans ?_
  rw [lanes_right (fun l => aq m c (row (bt t) (rt t r)) (lt t l) * κ) (fun d => ak m c (row (bt t) j) (klane (hr t) d))]
  simp only [lt_right, S]

theorem dp_left (t : Fin cfg0.N) (r : Fin 1024) : dpr (iblk m c 5 t) (iblk m c 3 t) r = P (av m c) (ad m c) (bt t) (hl t) (rt t r) := by
  funext j
  refine (Finset.sum_congr rfl fun l _ => by rw [show (iblk m c 5 t (ix2 r l) : EReal) = _ from blk5 m c t r l, show (iblk m c 3 t (ix3 0 j l) : EReal) = _ from blk3 m c t j l, pad_left]).trans ?_
  rw [lanes_left (fun l => ad m c (row (bt t) (rt t r)) (lt t l)) (fun d => av m c (row (bt t) j) (klane (hl t) d))]
  simp only [lt_left, P]

theorem dp_right (t : Fin cfg0.N) (r : Fin 1024) : dpr (iblk m c 5 t) (iblk m c 4 t) r = P (av m c) (ad m c) (bt t) (hr t) (rt t r) := by
  funext j
  refine (Finset.sum_congr rfl fun l _ => by rw [show (iblk m c 5 t (ix2 r l) : EReal) = _ from blk5 m c t r l, show (iblk m c 4 t (ix3 0 j l) : EReal) = _ from blk4 m c t j l, pad_right]).trans ?_
  rw [lanes_right (fun l => ad m c (row (bt t) (rt t r)) (lt t l)) (fun d => av m c (row (bt t) j) (klane (hr t) d))]
  simp only [lt_right, P]

end Cert.KernelIdeal.Value

end
-- ==== Proof.Arr.lean ====
/-
  The three arrays the attention gradient's call writes, element by element.
-/
module

public import proofs.«01_k».proof.Proof.Blk

@[expose] public section

set_option maxRecDepth 16384

noncomputable section

open Idealize.ShloMosaic Idealize.ShloMosaic.TcCoe Idealize.SL.Sem

namespace Cert.KernelIdeal.Value

open Cert.KernelIdeal Cert.KernelIdeal.Gen Cert.Row Cert.Att

variable (m : (ℓ : Loc nD τ sig) → Buf (Elt Ideal) ℓ) (c : Dev nD)

theorem out_q (t : Fin cfg0.N) : (outsAt0 m c t.val t.isLt).1 =
    qBlk (iblk m c 0 t) (iblk m c 5 t) (iblk m c 1 t) (iblk m c 2 t) (iblk m c 3 t) (iblk m c 4 t) := by
  by_cases h : t.val % 2 = 0
  · rw [outsAt0_A m c t h (by omega)]
    frame_out
  · rw [outsAt0_B m c t h (by omega)]
    frame_out

theorem out_k0 (t : Fin cfg0.N) (h : t.val % 2 = 0) (j : Fin 2048) (l : Fin 128) : (outsAt0 m c t.val t.isLt).2.1 (ix3 0 j l) =
    kBlk (iblk m c 0 t) (iblk m c 5 t) (iblk m c 1 t) (iblk m c 2 t) (iblk m c 3 t) (iblk m c 4 t) (ix2 j l) := by
  rw [outsAt0_A m c t h (by omega)]
  frame_out
  pointwise [k0_pay5]

theorem out_k1 (t : Fin cfg0.N) (h : ¬ t.val % 2 = 0) (j : Fin 2048) (l : Fin 128) : (outsAt0 m c t.val t.isLt).2.1 (ix3 0 j l) =
    (outsAt0 m c (t.val - 1) (Nat.lt_of_le_of_lt (Nat.sub_le _ _) t.isLt)).2.1 (ix3 0 j l) +
    kBlk (iblk m c 0 t) (iblk m c 5 t) (iblk m c 1 t) (iblk m c 2 t) (iblk m c 3 t) (iblk m c 4 t) (ix2 j l) := by
  rw [outsAt0_B m c t h (by omega)]
  frame_out
  pointwise [k0_pay7]

theorem out_v0 (t : Fin cfg0.N) (h : t.val % 2 = 0) (j : Fin 2048) (l : Fin 128) : (outsAt0 m c t.val t.isLt).2.2 (ix3 0 j l) =
    vBlk (iblk m c 0 t) (iblk m c 5 t) (iblk m c 1 t) (iblk m c 2 t) (ix2 j l) := by
  rw [outsAt0_A m c t h (by omega)]
  frame_out
  pointwise [k0_pay6]

theorem out_v1 (t : Fin cfg0.N) (h : ¬ t.val % 2 = 0) (j : Fin 2048) (l : Fin 128) : (outsAt0 m c t.val t.isLt).2.2 (ix3 0 j l) =
    (outsAt0 m c (t.val - 1) (Nat.lt_of_le_of_lt (Nat.sub_le _ _) t.isLt)).2.2 (ix3 0 j l) +
    vBlk (iblk m c 0 t) (iblk m c 5 t) (iblk m c 1 t) (iblk m c 2 t) (ix2 j l) := by
  rw [outsAt0_B m c t h (by omega)]
  frame_out
  pointwise [k0_pay8]

/-- The head and the lane within it of a lane of the point's block. -/
abbrev hh (t : Fin cfg0.N) (l : Fin 128) : Fin 8 := ⟨2 * pt t + l / 64, by have := (pt t).isLt; omega⟩

theorem hh_left (t : Fin cfg0.N) (l : Fin 128) (h : (l : ℕ) < 64) : hh t l = hl t := Fin.ext (by simp only [hh, hl]; omega)
theorem hh_right (t : Fin cfg0.N) (l : Fin 128) (h : ¬ (l : ℕ) < 64) : hh t l = hr t := Fin.ext (by simp only [hh, hr]; omega)
theorem lt_hh (t : Fin cfg0.N) (l : Fin 128) : lt t l = lane (hh t l) (dK l) := Fin.ext (by simp only [lane, hh, lt]; omega)

theorem qBlk_eq (t : Fin cfg0.N) (r : Fin 1024) (l : Fin 128) :
    qBlk (iblk m c 0 t) (iblk m c 5 t) (iblk m c 1 t) (iblk m c 2 t) (iblk m c 3 t) (iblk m c 4 t) (ix2 r l)
      = gQ (aq m c) (ak m c) (av m c) (ad m c) (bt t) (hh t l) (rt t r) (dK l) := by
  rw [qBlk_at, sc_left, sc_right, dp_left, dp_right, gQ]
  have e1 : ∀ j, (iblk m c 1 t (ix3 0 j l) : EReal) = if (l : ℕ) < 64 then ak m c (row (bt t) j) (klane (hl t) (dK l)) else 0 :=
    fun j => (blk1 m c t j l).trans (pad_left _ t _ l)
  have e2 : ∀ j, (iblk m c 2 t (ix3 0 j l) : EReal) = if (l : ℕ) < 64 then 0 else ak m c (row (bt t) j) (klane (hr t) (dK l)) :=
    fun j => (blk2 m c t j l).trans (pad_right _ t _ l)
  simp only [e1, e2]
  by_cases h : (l : ℕ) < 64
  · rw [hh_left t l h]; simp [h]
  · rw [hh_right t l h]; simp [h]

/-- What one block of query rows adds to the gradient of the keys. -/
def kTerm (t : Fin cfg0.N) (j : Fin 2048) (l : Fin 128) : EReal :=
  ∑ r : Fin 1024, ds (S (aq m c) (ak m c) (bt t) (hh t l) (rt t r)) (P (av m c) (ad m c) (bt t) (hh t l) (rt t r)) j *
    (aq m c (row (bt t) (rt t r)) (lane (hh t l) (dK l)) * κ * rinv (S (aq m c) (ak m c) (bt t) (hh t l) (rt t r)))

def vTerm (t : Fin cfg0.N) (j : Fin 2048) (l : Fin 128) : EReal :=
  ∑ r : Fin 1024, ex (S (aq m c) (ak m c) (bt t) (hh t l) (rt t r)) j *
    (ad m c (row (bt t) (rt t r)) (lane (hh t l) (dK l)) * rinv (S (aq m c) (ak m c) (bt t) (hh t l) (rt t r)))

theorem kBlk_eq (t : Fin cfg0.N) (j : Fin 2048) (l : Fin 128) :
    kBlk (iblk m c 0 t) (iblk m c 5 t) (iblk m c 1 t) (iblk m c 2 t) (iblk m c 3 t) (iblk m c 4 t) (ix2 j l) = kTerm m c t j l := by
  rw [kBlk_at, kTerm]
  have e0 : ∀ r, (iblk m c 0 t (ix2 r l) : EReal) = aq m c (row (bt t) (rt t r)) (lane (hh t l) (dK l)) * κ :=
    fun r => (blk0 m c t r l).trans (by rw [lt_hh])
  simp only [sc_left, sc_right, dp_left, dp_right, e0]
  by_cases h : (l : ℕ) < 64
  · rw [hh_left t l h]; simp [h]
  · rw [hh_right t l h]; simp [h]

theorem vBlk_eq (t : Fin cfg0.N) (j : Fin 2048) (l : Fin 128) :
    vBlk (iblk m c 0 t) (iblk m c 5 t) (iblk m c 1 t) (iblk m c 2 t) (ix2 j l) = vTerm m c t j l := by
  rw [vBlk_at, vTerm]
  have e0 : ∀ r, (iblk m c 5 t (ix2 r l) : EReal) = ad m c (row (bt t) (rt t r)) (lane (hh t l) (dK l)) :=
    fun r => (blk5 m c t r l).trans (by rw [lt_hh])
  simp only [sc_left, sc_right, e0]
  by_cases h : (l : ℕ) < 64
  · rw [hh_left t l h]; simp [h]
  · rw [hh_right t l h]; simp [h]

/-- The two blocks of query rows together. -/
theorem halves (f : Fin 2048 → EReal) : (∑ s : Fin 2, ∑ r : Fin 1024, f ⟨1024 * s + r, by omega⟩) = ∑ t, f t := by
  rw [Fin.sum_univ_two_halves 1024 1024 rfl f, Fin.sum_univ_two]
  simp

/-- The array of the gradient of `q`. -/
abbrev W6 : S4096x512.Idx → EReal := fun y =>
  gQ (aq m c) (ak m c) (av m c) (ad m c) (bq (y 0)) (hd (aQ (y 1)) (gQQ (y 1))) (tq (y 0)) (dQ (y 1))

/-- The array of the padded gradients of `k` and of `v`. -/
abbrev W7 : S4x4096x128.Idx → EReal := fun y =>
  gK (aq m c) (ak m c) (av m c) (ad m c) (bq (y 1)) ⟨2 * (y 0 : Fin 4) + (y 2 : Fin 128) / 64, by have := (y 0).isLt; have := (y 2).isLt; simp at *; omega⟩ (tq (y 1)) (dK (y 2))
abbrev W8 : S4x4096x128.Idx → EReal := fun y =>
  gV (aq m c) (ak m c) (ad m c) (bq (y 1)) ⟨2 * (y 0 : Fin 4) + (y 2 : Fin 128) / 64, by have := (y 0).isLt; have := (y 2).isLt; simp at *; omega⟩ (tq (y 1)) (dK (y 2))

theorem emb6 (t : Fin cfg0.N) (r : Fin 1024) (l : Fin 128) :
    (win0_6.blk t).view.emb (ix2 r l) = ix2 (row (bt t) (rt t r)) (lt t l) := by
  blk_ext [idx t, row]

theorem emb7 (t : Fin cfg0.N) (j : Fin 2048) (l : Fin 128) :
    (win0_7.blk t).view.emb (ix3 0 j l) = ix3 (pt t) (row (bt t) j) l := by
  blk_ext [idx t, row]

theorem emb8 (t : Fin cfg0.N) (j : Fin 2048) (l : Fin 128) :
    (win0_8.blk t).view.emb (ix3 0 j l) = ix3 (pt t) (row (bt t) j) l := by
  blk_ext [idx t, row]

theorem bq_row (b : Fin 2) (t : Fin 2048) : bq (row b t) = b := Fin.ext (by simp only [bq, row]; omega)
theorem tq_row (b : Fin 2) (t : Fin 2048) : tq (row b t) = t := Fin.ext (by simp only [tq, row]; omega)
theorem hd_lt (t : Fin cfg0.N) (l : Fin 128) : hd (aQ (lt t l)) (gQQ (lt t l)) = hh t l := Fin.ext (by simp only [hh, lt, hd, aQ, gQQ]; omega)
theorem dQ_lt (t : Fin cfg0.N) (l : Fin 128) : dQ (lt t l) = dK l := Fin.ext (by simp only [dQ, lt, dK]; omega)

theorem W6_at (r : Fin 4096) (l : Fin 512) :
    W6 m c (ix2 r l) = gQ (aq m c) (ak m c) (av m c) (ad m c) (bq r) (hd (aQ l) (gQQ l)) (tq r) (dQ l) := rfl
theorem W7_at (p : Fin 4) (r : Fin 4096) (l : Fin 128) :
    W7 m c (ix3 p r l) = gK (aq m c) (ak m c) (av m c) (ad m c) (bq r) ⟨2 * p + l / 64, by omega⟩ (tq r) (dK l) := rfl
theorem W8_at (p : Fin 4) (r : Fin 4096) (l : Fin 128) :
    W8 m c (ix3 p r l) = gV (aq m c) (ak m c) (ad m c) (bq r) ⟨2 * p + l / 64, by omega⟩ (tq r) (dK l) := rfl

theorem ex_ix2 (x : S1024x128.Idx) : ∃ (a : Fin 1024) (b : Fin 128), x = ix2 a b :=
  ⟨x 0, x 1, by ext i; fin_cases i <;> rfl⟩

theorem ex_ix3' (x : S1x2048x128.Idx) : ∃ (a : Fin 2048) (b : Fin 128), x = ix3 0 a b :=
  ⟨x 1, x 2, by
    ext i; fin_cases i
    · have : (x 0 : ℕ) < 1 := (x 0).isLt
      show (x 0 : ℕ) = 0
      omega
    all_goals rfl⟩

theorem arr6 : (dats m 0 c).arrAt 6 cfg0.N = W6 m c := by
  refine (dats m 0 c).arrAt_eq_of_covers 6 _ (by decide +kernel) fun t hf y => ?_
  rw [after0_6, out_q]
  blk_simp
  obtain ⟨r, l, rfl⟩ := ex_ix2 y
  refine (qBlk_eq m c t r l).trans ?_
  rw [emb6, W6_at, bq_row, tq_row, hd_lt, dQ_lt]

/-- The run of the two points that share a block, from its last point. -/
theorem pts (t : Fin cfg0.N) (s : Fin 2) (h : 2 * ((t : ℕ) / 2) + s < cfg0.N) (l : Fin 128) (r : Fin 1024) :
    bt ⟨2 * ((t : ℕ) / 2) + s, h⟩ = bt t ∧ hh ⟨2 * ((t : ℕ) / 2) + s, h⟩ l = hh t l ∧
      rt ⟨2 * ((t : ℕ) / 2) + s, h⟩ r = ⟨1024 * s + r, by omega⟩ := by
  refine ⟨Fin.ext ?_, Fin.ext ?_, Fin.ext ?_⟩ <;> simp only [bt, hh, pt, rt, it] <;> omega

theorem acc_k (t : Fin cfg0.N) (hf : t.val % 2 = 1) (j : Fin 2048) (l : Fin 128) :
    (outsAt0 m c t.val t.isLt).2.1 (ix3 0 j l) = gK (aq m c) (ak m c) (av m c) (ad m c) (bt t) (hh t l) j (dK l) := by
  have := Pipeline.eq_sum_fin_of_reset_step_apply_of_flush (N := cfg0.N) (ι := Fin 2048 × Fin 128) (M := EReal)
    (fun n h x => (outsAt0 m c n h).2.1 (ix3 0 x.1 x.2)) 2 (fun _ => 0) (fun t x => kTerm m c t x.1 x.2)
    (fun t h x => by rw [zero_add]; exact (out_k0 m c t h x.1 x.2).trans (kBlk_eq m c t x.1 x.2))
    (fun t h x => by rw [← kBlk_eq]; exact out_k1 m c t h x.1 x.2) t hf (j, l)
  refine this.trans ?_
  rw [zero_add, gK, ← halves]
  refine Finset.sum_congr rfl fun s _ => ?_
  rw [kTerm]
  refine Finset.sum_congr rfl fun r _ => ?_
  obtain ⟨e1, e2, e3⟩ := pts t s (Pipeline.run_point_lt_of_flush t hf s) l r
  rw [e1, e2, e3]

theorem acc_v (t : Fin cfg0.N) (hf : t.val % 2 = 1) (j : Fin 2048) (l : Fin 128) :
    (outsAt0 m c t.val t.isLt).2.2 (ix3 0 j l) = gV (aq m c) (ak m c) (ad m c) (bt t) (hh t l) j (dK l) := by
  have := Pipeline.eq_sum_fin_of_reset_step_apply_of_flush (N := cfg0.N) (ι := Fin 2048 × Fin 128) (M := EReal)
    (fun n h x => (outsAt0 m c n h).2.2 (ix3 0 x.1 x.2)) 2 (fun _ => 0) (fun t x => vTerm m c t x.1 x.2)
    (fun t h x => by rw [zero_add]; exact (out_v0 m c t h x.1 x.2).trans (vBlk_eq m c t x.1 x.2))
    (fun t h x => by rw [← vBlk_eq]; exact out_v1 m c t h x.1 x.2) t hf (j, l)
  refine this.trans ?_
  rw [zero_add, gV, ← halves]
  refine Finset.sum_congr rfl fun s _ => ?_
  rw [vTerm]
  refine Finset.sum_congr rfl fun r _ => ?_
  obtain ⟨e1, e2, e3⟩ := pts t s (Pipeline.run_point_lt_of_flush t hf s) l r
  rw [e1, e2, e3]

theorem arr7 : (dats m 0 c).arrAt 7 cfg0.N = W7 m c := by
  refine (dats m 0 c).arrAt_eq_of_covers 7 _ (by decide +kernel) fun t hf y => ?_
  rw [after0_7]
  blk_simp
  obtain ⟨j, l, rfl⟩ := ex_ix3' y
  refine (acc_k m c t ((flush0_7 t).mp hf) j l).trans ?_
  rw [emb7, W7_at, bq_row, tq_row]

theorem arr8 : (dats m 0 c).arrAt 8 cfg0.N = W8 m c := by
  refine (dats m 0 c).arrAt_eq_of_covers 8 _ (by decide +kernel) fun t hf y => ?_
  rw [after0_8]
  blk_simp
  obtain ⟨j, l, rfl⟩ := ex_ix3' y
  refine (acc_v m c t ((flush0_8 t).mp hf) j l).trans ?_
  rw [emb8, W8_at, bq_row, tq_row]

end Cert.KernelIdeal.Value

end
-- ==== Proof.Tail.lean ====
/-
  The host operations after the attention gradient's call: what they make of the three arrays it writes.
-/
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.StableHlo.ReadAt
public import proofs.«01_k».proof.Proof.Pay

@[expose] public section

set_option maxRecDepth 16384

noncomputable section

open Idealize.ShloMosaic Idealize.ShloMosaic.TcCoe Idealize.SL.Sem

namespace Cert.KernelIdeal.Value

open Cert.KernelIdeal Cert.KernelIdeal.Gen

variable (W : Valuation τ sig (Elt Ideal))

/-- The lines that follow the call, as one list. -/
abbrev tailOps : List (HloOp τ sig (Elt Ideal)) :=
  List.flatten [hostOps1, hostOps1_1, hostOps1_2, hostOps1_3, hostOps1_4, hostOps1_5, hostOps1_6, hostOps1_7, hostOps1_8, hostOps1_9, hostOps1_10, hostOps1_11]

/-- The four padded blocks of a gradient folded back into two heads of 64 lanes. -/
def fold4 (D : FVec Ideal S4x4096x128 .f32) (r : Fin 4096) (l : Fin 128) : EReal :=
  if h : (l : ℕ) < 64 then
    (D (ix3 0 r l) + D (ix3 1 r l)) + (D (ix3 0 r ⟨64 + l, by omega⟩) + D (ix3 1 r ⟨64 + l, by omega⟩))
  else (D (ix3 2 r l) + D (ix3 3 r l)) + (D (ix3 2 r ⟨l - 64, by omega⟩) + D (ix3 3 r ⟨l - 64, by omega⟩))

theorem fold_eq (D : FVec Ideal S4x4096x128 .f32) (r : Fin 4096) (l : Fin 128) :
    Scalar.select (IntOp.cmpi CmpIPredicate.slt (BitVec.ofNat 32 (l : ℕ)) 64#32)
      ((D (ix3 0 r l) + D (ix3 1 r l) +
        if h : (l : ℕ) < 64 then D (ix3 0 r ⟨64 + l, by omega⟩) + D (ix3 1 r ⟨64 + l, by omega⟩)
        else D (ix3 0 r ⟨l - 64, by omega⟩) + D (ix3 1 r ⟨l - 64, by omega⟩) : EReal))
      (D (ix3 2 r l) + D (ix3 3 r l) +
        if h : (l : ℕ) < 64 then D (ix3 2 r ⟨64 + l, by omega⟩) + D (ix3 3 r ⟨64 + l, by omega⟩)
        else D (ix3 2 r ⟨l - 64, by omega⟩) + D (ix3 3 r ⟨l - 64, by omega⟩)) = fold4 D r l := by
  rw [mask_left, fold4]
  by_cases h : (l : ℕ) < 64 <;> simp only [h, if_true, if_false, dite_true, dite_false]

theorem tail_q (r : Fin 4096) (l : Fin 512) :
    (show EReal from StableHlo.after tailOps W (Proc.devRef .tc main_v37) (ix2 r l)) =
      (show EReal from W (Proc.devRef .tc main_v35_0) (ix2 r l)) * Ideal.ofBits .f32 0x3E000000#32 := by
  simp only [tailOps, List.flatten_cons, List.flatten_nil, List.append_nil]
  after_reads_at

set_option maxHeartbeats 6400000 in
theorem tail_k (r : Fin 4096) (l : Fin 128) :
    (show EReal from StableHlo.after tailOps W (Proc.devRef .tc main_v55) (ix2 r l)) =
      fold4 (W (Proc.devRef .tc main_v35_1)) r l := by
  simp only [tailOps, List.flatten_cons, List.flatten_nil, List.append_nil]
  after_reads_at
  after_reads_at
  exact fold_eq (W (Proc.devRef .tc main_v35_1)) r l

set_option maxHeartbeats 6400000 in
theorem tail_v (r : Fin 4096) (l : Fin 128) :
    (show EReal from StableHlo.after tailOps W (Proc.devRef .tc main_v73) (ix2 r l)) =
      fold4 (W (Proc.devRef .tc main_v35_2)) r l := by
  simp only [tailOps, List.flatten_cons, List.flatten_nil, List.append_nil]
  after_reads_at
  after_reads_at
  exact fold_eq (W (Proc.devRef .tc main_v35_2)) r l

end Cert.KernelIdeal.Value

end
-- ==== Proof.Out.lean ====
/-
  The attention gradient's three results, element by element.
-/
module

public import proofs.«01_k».proof.Proof.Arr
public import proofs.«01_k».proof.Proof.Tail

@[expose] public section

set_option maxRecDepth 16384

noncomputable section

open Idealize.ShloMosaic Idealize.ShloMosaic.TcCoe Idealize.SL.Sem

namespace Cert.KernelIdeal.Value

open Cert.KernelIdeal Cert.KernelIdeal.Gen Cert.Row Cert.Att

variable (m : (ℓ : Loc nD τ sig) → Buf (Elt Ideal) ℓ) (c : Dev nD)

/-- What every buffer holds once the call has run. -/
abbrev WA : Valuation τ sig (Elt Ideal) :=
  Pipeline.withArrays (KernelIdeal.cfgs 0).spec c (V0 m c) fun w => (dats m 0 c).arrAt w (KernelIdeal.cfgs 0).N

theorem shared : Pipeline.SharedIn (KernelIdeal.cfgs 0).spec := by decide

theorem WA_q : WA m c (Proc.devRef .tc main_v35_0) = W6 m c :=
  (Pipeline.withArrays_arr_shared (KernelIdeal.cfgs 0).spec c (V0 m c) _ ((dats m 0 c).arrAt_sharedIn shared (V0 m c) (fun _ => rfl) _) 6).trans (arr6 m c)
theorem WA_k : WA m c (Proc.devRef .tc main_v35_1) = W7 m c :=
  (Pipeline.withArrays_arr_shared (KernelIdeal.cfgs 0).spec c (V0 m c) _ ((dats m 0 c).arrAt_sharedIn shared (V0 m c) (fun _ => rfl) _) 7).trans (arr7 m c)
theorem WA_v : WA m c (Proc.devRef .tc main_v35_2) = W8 m c :=
  (Pipeline.withArrays_arr_shared (KernelIdeal.cfgs 0).spec c (V0 m c) _ ((dats m 0 c).arrAt_sharedIn shared (V0 m c) (fun _ => rfl) _) 8).trans (arr8 m c)

theorem fold_gK (r : Fin 4096) (l : Fin 128) : fold4 (W7 m c) r l =
    ∑ g, gK (aq m c) (ak m c) (av m c) (ad m c) (bq r) (hd (aK l) g) (tq r) (dK l) := by
  have e : ∀ (p : Fin 4) (l' : Fin 128) (g : Fin 4), (2 * (p : ℕ) + l' / 64 = 4 * (l / 64) + g) → (l' : ℕ) % 64 = l % 64 →
      W7 m c (ix3 p r l') = gK (aq m c) (ak m c) (av m c) (ad m c) (bq r) (hd (aK l) g) (tq r) (dK l) := by
    intro p l' g h1 h2
    rw [W7_at]
    congr 1 <;> apply Fin.ext <;> simp only [hd, aK, dK] <;> omega
  rw [fold4, Fin.sum_univ_four]
  split_ifs with h
  · rw [e 0 l 0, e 1 l 2, e 0 _ 1, e 1 _ 3]
    · ac_rfl
    all_goals simp <;> omega
  · rw [e 2 l 1, e 3 l 3, e 2 _ 0, e 3 _ 2]
    · ac_rfl
    all_goals simp <;> omega

theorem fold_gV (r : Fin 4096) (l : Fin 128) : fold4 (W8 m c) r l =
    ∑ g, gV (aq m c) (ak m c) (ad m c) (bq r) (hd (aK l) g) (tq r) (dK l) := by
  have e : ∀ (p : Fin 4) (l' : Fin 128) (g : Fin 4), (2 * (p : ℕ) + l' / 64 = 4 * (l / 64) + g) → (l' : ℕ) % 64 = l % 64 →
      W8 m c (ix3 p r l') = gV (aq m c) (ak m c) (ad m c) (bq r) (hd (aK l) g) (tq r) (dK l) := by
    intro p l' g h1 h2
    rw [W8_at]
    congr 1 <;> apply Fin.ext <;> simp only [hd, aK, dK] <;> omega
  rw [fold4, Fin.sum_univ_four]
  split_ifs with h
  · rw [e 0 l 0, e 1 l 2, e 0 _ 1, e 1 _ 3]
    · ac_rfl
    all_goals simp <;> omega
  · rw [e 2 l 1, e 3 l 3, e 2 _ 0, e 3 _ 2]
    · ac_rfl
    all_goals simp <;> omega

/-- The lines after the call, as the run states them. -/
abbrev res (b : Ref sig .tc) :=
  Pipeline.afterTail₀ KernelIdeal.cfgs (dats m) 0 (V0 m) [hostOps1, hostOps1_1, hostOps1_2, hostOps1_3, hostOps1_4, hostOps1_5, hostOps1_6, hostOps1_7, hostOps1_8, hostOps1_9, hostOps1_10, hostOps1_11] c b

theorem out_dq (r : Fin 4096) (l : Fin 512) : (show EReal from res m c main_v37 (ix2 r l)) =
    gQ (aq m c) (ak m c) (av m c) (ad m c) (bq r) (hd (aQ l) (gQQ l)) (tq r) (dQ l) * κ := by
  refine (tail_q (WA m c) r l).trans ?_
  rw [WA_q]
  rfl

theorem out_dk (r : Fin 4096) (l : Fin 128) : (show EReal from res m c main_v55 (ix2 r l)) =
    ∑ g, gK (aq m c) (ak m c) (av m c) (ad m c) (bq r) (hd (aK l) g) (tq r) (dK l) := by
  refine (tail_k (WA m c) r l).trans ?_
  rw [WA_k, fold_gK]

theorem out_dv (r : Fin 4096) (l : Fin 128) : (show EReal from res m c main_v73 (ix2 r l)) =
    ∑ g, gV (aq m c) (ak m c) (ad m c) (bq r) (hd (aK l) g) (tq r) (dK l) := by
  refine (tail_v (WA m c) r l).trans ?_
  rw [WA_v, fold_gV]

end Cert.KernelIdeal.Value

end
-- ==== Proof.RefAt.lean ====
/-
  The reference's three gradients, read at an index: the scores, their exponentials, a row's sum, the gradient of a row of scores, then
  the three products.
-/
module

public import proofs.«01_k».proof.Proof.Spec
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Att Cert.Row

variable (A0 A3 : FVec Ideal S4096x512 .f32) (A1 A2 : FVec Ideal S4096x128 .f32)

/-- The scores. -/
def sV : FVec Ideal S2x2x4x2048x2048 .f32 :=
  mulf (transpose S2x2x4x2048x2048 [0, 1, 4, 3, 2] (Host.dotGeneral dot_S2x2048x2x64_S2x2048x2x4x64_S2x2x2048x2048x4_3_4_1_13_02_02 none (shapeCast _ A1 shapeCasts_S4096x128_S2x2048x2x64) (shapeCast _ A0 shapeCasts_S4096x512_S2x2048x2x4x64)) transposes_S2x2x2048x2048x4_S2x2x4x2048x2048_0_1_4_3_2) (broadcastInDim S2x2x4x2048x2048 ![] bcast_S_S2x2x4x2048x2048 (constant S_ .f32 0x3E000000#32))

/-- A row's greatest score. -/
def mxV (s : FVec Ideal S2x2x4x2048x2048 .f32) : FVec Ideal S2x2x4x2048 .f32 :=
  Host.reduce FloatOps.maximumf s (constant S_ .f32 0xFF800000#32) reducesTo_S2x2x4x2048x2048_S2x2x4x2048_d4 h_S_

/-- Their exponentials. -/
def eV (s : FVec Ideal S2x2x4x2048x2048 .f32) (mx : FVec Ideal S2x2x4x2048 .f32) : FVec Ideal S2x2x4x2048x2048 .f32 :=
  Host.exp (subf s (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (maximumf (broadcastInDim S2x2x4x2048 ![] bcast_S_S2x2x4x2048 (constant S_ .f32 0xFF800000#32)) mx))))

/-- A row's sum. -/
def lV (e : FVec Ideal S2x2x4x2048x2048 .f32) : FVec Ideal S2x2x4x2048 .f32 :=
  Host.reduceAdd e (constant S_ .f32 0x00000000#32) reducesTo_S2x2x4x2048x2048_S2x2x4x2048_d4 h_S_

/-- The gradient of the weights. -/
def dpV : FVec Ideal S2x2x4x2048x2048 .f32 :=
  Host.dotGeneral dot_S2x2x64x4x2048_S2x2048x2x64_S2x2x4x2048x2048_2_3_34_1_01_02 none (transpose S2x2x64x4x2048 [0, 2, 4, 3, 1] (shapeCast _ A3 shapeCasts_S4096x512_S2x2048x2x4x64) transposes_S2x2048x2x4x64_S2x2x64x4x2048_0_2_4_3_1) (shapeCast _ A2 shapeCasts_S4096x128_S2x2048x2x64)

/-- The row sum the quotient's second part takes. -/
def wV (e dp : FVec Ideal S2x2x4x2048x2048 .f32) (l : FVec Ideal S2x2x4x2048 .f32) : FVec Ideal S2x2x4x2048 .f32 :=
  Host.reduceAdd (mulf (mulf dp (broadcastInDim S2x2x4x2048x2048 ![0, 1, 2, 3, 4] bcast_S2x2x4x2048x1_S2x2x4x2048x2048_0_1_2_3_4 (Host.divf (broadcastInDim S2x2x4x2048x1 ![] bcast_S_S2x2x4x2048x1 (constant S_ .f32 0x3F800000#32)) (mulf (broadcastInDim S2x2x4x2048x1 ![0, 1, 2, 3] bcast_S2x2x4x2048_S2x2x4x2048x1_0_1_2_3 l) (broadcastInDim S2x2x4x2048x1 ![0, 1, 2, 3] bcast_S2x2x4x2048_S2x2x4x2048x1_0_1_2_3 l))))) e) (constant S_ .f32 0x00000000#32) reducesTo_S2x2x4x2048x2048_S2x2x4x2048_d4 h_S_

/-- That sum, negated. -/
def nV (w : FVec Ideal S2x2x4x2048 .f32) : FVec Ideal S2x2x4x2048 .f32 :=
  Host.reduceAdd (Host.negf (shapeCast _ w shapeCasts_S2x2x4x2048_S2x2x4x2048x1)) (constant S_ .f32 0x00000000#32) reducesTo_S2x2x4x2048x1_S2x2x4x2048_d4 h_S_

/-- The gradient of the products of `q` and `k`. -/
def zV (e dp : FVec Ideal S2x2x4x2048x2048 .f32) (l n : FVec Ideal S2x2x4x2048 .f32) : FVec Ideal S2x2x4x2048x2048 .f32 :=
  mulf (mulf (addf (Host.divf dp (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 l))) (broadcastInDim S2x2x4x2048x2048 ![0, 1, 2, 3] bcast_S2x2x4x2048_S2x2x4x2048x2048_0_1_2_3 n)) e) (broadcastInDim S2x2x4x2048x2048 ![] bcast_S_S2x2x4x2048x2048 (constant S_ .f32 0x3E000000#32))

def qV (z : FVec Ideal S2x2x4x2048x2048 .f32) : FVec Ideal S4096x512 .f32 :=
  shapeCast _ (transpose S2x2048x2x4x64 [0, 2, 1, 3, 4] (Host.dotGeneral dot_S2x2x2048x2048x4_S2x2048x2x64_S2x2x2048x4x64_2_1_34_3_01_02 none (transpose S2x2x2048x2048x4 [0, 1, 4, 3, 2] z transposes_S2x2x4x2048x2048_S2x2x2048x2048x4_0_1_4_3_2) (shapeCast _ A1 shapeCasts_S4096x128_S2x2048x2x64)) transposes_S2x2x2048x4x64_S2x2048x2x4x64_0_2_1_3_4) shapeCasts_S2x2048x2x4x64_S4096x512

def kV (z : FVec Ideal S2x2x4x2048x2048 .f32) : FVec Ideal S4096x128 .f32 :=
  shapeCast _ (transpose S2x2048x2x64 [0, 2, 1, 3] (Host.dotGeneral dot_S2x2x2048x2048x4_S2x2048x2x4x64_S2x2x2048x64_34_13_2_4_01_02 none (transpose S2x2x2048x2048x4 [0, 1, 4, 3, 2] z transposes_S2x2x4x2048x2048_S2x2x2048x2048x4_0_1_4_3_2) (shapeCast _ A0 shapeCasts_S4096x512_S2x2048x2x4x64)) transposes_S2x2x2048x64_S2x2048x2x64_0_2_1_3) shapeCasts_S2x2048x2x64_S4096x128

def vV (e : FVec Ideal S2x2x4x2048x2048 .f32) (l : FVec Ideal S2x2x4x2048 .f32) : FVec Ideal S4096x128 .f32 :=
  shapeCast _ (transpose S2x2048x2x64 [0, 3, 1, 2] (Host.dotGeneral dot_S2x2x64x4x2048_S2x2x4x2048x2048_S2x2x64x2048_34_23_2_4_01_01 none (transpose S2x2x64x4x2048 [0, 2, 4, 3, 1] (shapeCast _ A3 shapeCasts_S4096x512_S2x2048x2x4x64) transposes_S2x2048x2x4x64_S2x2x64x4x2048_0_2_4_3_1) (Host.divf e (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 l)))) transposes_S2x2x64x2048_S2x2048x2x64_0_3_1_2) shapeCasts_S2x2048x2x64_S4096x128

set_option maxHeartbeats 400000

theorem mxV_at (s) (b a : Fin 2) (g : Fin 4) (t : Fin 2048) :
    mxV s (ix4 b a g t) = Finset.univ.fold max ⊥ (fun j : Fin 2048 => s (ix5 b a g t j)) := by
  have h : S2x2x4x2048x2048.Reduces [4] S2x2x4x2048 := by decide
  rw [mxV, Host.reduce_eq_fold_single FloatOps.maximumf s _ _ h]
  have hb : (Ideal.ofBits .f32 0xFF800000#32) = ⊥ := by simp [Ideal.ofBits, Ideal.ieee]
  have hf : (s ∘ h.lift (ix4 b a g t)) = fun j : Fin 2048 => s (ix5 b a g t j) := funext fun k => congrArg s (by
    funext c; apply Fin.ext
    fin_cases c <;> rfl)
  rw [← hb]
  exact congrArg (fun f => Finset.fold max (Ideal.ofBits .f32 0xFF800000#32) f (Finset.univ : Finset (Fin 2048))) hf

theorem sV_at (b a : Fin 2) (g : Fin 4) (t j : Fin 2048) :
    sV A0 A1 (ix5 b a g t j) = S (fun r l => A0 (ix2 r l)) (fun r l => A1 (ix2 r l)) b (hd a g) t j := by
  pointwise [sV, S]
  obtain ⟨c, hc, e⟩ := κ_coe
  simp only [κ] at e ⊢
  simp only [e]
  rw [sum_mul _ c hc]
  refine Finset.sum_congr rfl fun d _ => ?_
  rw [mul_assoc, mul_comm]
  congr 1
  · congr 2
    · congr 1 <;> apply Fin.ext <;> simp only [row, lane] <;> omega
  · congr 2 <;> apply Fin.ext <;> simp only [row, klane] <;> omega

theorem dpV_at (b a : Fin 2) (g : Fin 4) (t j : Fin 2048) :
    dpV A3 A2 (ix5 b a g t j) = P (fun r l => A2 (ix2 r l)) (fun r l => A3 (ix2 r l)) b (hd a g) t j := by
  pointwise [dpV, P]
  refine Finset.sum_congr rfl fun d _ => ?_
  congr 1 <;> congr 2 <;> apply Fin.ext <;> simp only [row, lane, klane] <;> omega

theorem eV_of (s mx) (b a : Fin 2) (g : Fin 4) (t j : Fin 2048) :
    eV s mx (ix5 b a g t j) = Ideal.exp (s (ix5 b a g t j) - mx (ix4 b a g t)) := by
  have hb : (Ideal.ofBits .f32 0xFF800000#32) = ⊥ := by simp [Ideal.ofBits, Ideal.ieee]
  pointwise [eV]
  rw [hb, max_eq_right bot_le]

theorem eV_at (b a : Fin 2) (g : Fin 4) (t j : Fin 2048) :
    eV (sV A0 A1) (mxV (sV A0 A1)) (ix5 b a g t j)
      = ex (S (fun r l => A0 (ix2 r l)) (fun r l => A1 (ix2 r l)) b (hd a g) t) j := by
  rw [eV_of, mxV_at, sV_at, ex]
  congr 3
  funext k
  exact sV_at A0 A1 b a g t k

theorem lV_at (e) (b a : Fin 2) (g : Fin 4) (t : Fin 2048) :
    lV e (ix4 b a g t) = ∑ j, e (ix5 b a g t j) := by
  pointwise [lV]

theorem wV_at (e dp l) (b a : Fin 2) (g : Fin 4) (t : Fin 2048) :
    wV e dp l (ix4 b a g t) =
      ∑ x, dp (ix5 b a g t x) * Ideal.div 1 (l (ix4 b a g t) * l (ix4 b a g t)) * e (ix5 b a g t x) := by
  pointwise [wV]

theorem nV_at (w) (b a : Fin 2) (g : Fin 4) (t : Fin 2048) : nV w (ix4 b a g t) = -w (ix4 b a g t) := by
  pointwise [nV]
  simp

theorem zV_at (e dp l n) (b a : Fin 2) (g : Fin 4) (t j : Fin 2048) :
    zV e dp l n (ix5 b a g t j) =
      (Ideal.div (dp (ix5 b a g t j)) (l (ix4 b a g t)) + n (ix4 b a g t)) * e (ix5 b a g t j) * κ := by
  pointwise [zV]

theorem qV_at (z) (r : Fin 4096) (l : Fin 512) :
    qV A1 z (ix2 r l) = ∑ x, z (ix5 (bq r) (aQ l) (gQQ l) (tq r) x) * A1 (ix2 (row (bq r) x) (klane (hd (aQ l) (gQQ l)) (dQ l))) := by
  pointwise [qV]
  refine Finset.sum_congr rfl fun d _ => ?_
  congr 3 <;> apply Fin.ext <;> simp only [row, klane] <;> omega

theorem kV_at (z) (r : Fin 4096) (l : Fin 128) :
    kV A0 z (ix2 r l) = ∑ g, ∑ t, z (ix5 (bq r) (aK l) g t (tq r)) * A0 (ix2 (row (bq r) t) (lane (hd (aK l) g) (dK l))) := by
  pointwise [kV]
  rw [Finset.sum_comm]
  refine Finset.sum_congr rfl fun g _ => Finset.sum_congr rfl fun t _ => ?_
  congr 3 <;> apply Fin.ext <;> simp only [row, lane] <;> omega

theorem vV_at (e l) (r : Fin 4096) (i : Fin 128) :
    vV A3 e l (ix2 r i) = ∑ g, ∑ t, A3 (ix2 (row (bq r) t) (lane (hd (aK i) g) (dK i))) *
      Ideal.div (e (ix5 (bq r) (aK i) g t (tq r))) (l (ix4 (bq r) (aK i) g t)) := by
  pointwise [vV]
  refine Finset.sum_congr rfl fun g _ => Finset.sum_congr rfl fun t _ => ?_
  congr 3 <;> apply Fin.ext <;> simp only [row, lane] <;> omega

section
variable (hQ : ∀ r l, ∃ x : ℝ, A0 (ix2 r l) = (x : EReal)) (hK : ∀ r l, ∃ x : ℝ, A1 (ix2 r l) = (x : EReal))
include hQ hK

/-- The composed gradient of the products. -/
theorem z_at (b a : Fin 2) (g : Fin 4) (t j : Fin 2048) :
    zV (eV (sV A0 A1) (mxV (sV A0 A1))) (dpV A3 A2) (lV (eV (sV A0 A1) (mxV (sV A0 A1))))
        (nV (wV (eV (sV A0 A1) (mxV (sV A0 A1))) (dpV A3 A2) (lV (eV (sV A0 A1) (mxV (sV A0 A1)))))) (ix5 b a g t j)
      = rinv (S (fun r l => A0 (ix2 r l)) (fun r l => A1 (ix2 r l)) b (hd a g) t)
        * ds (S (fun r l => A0 (ix2 r l)) (fun r l => A1 (ix2 r l)) b (hd a g) t)
            (P (fun r l => A2 (ix2 r l)) (fun r l => A3 (ix2 r l)) b (hd a g) t) j * κ := by
  rw [zV_at, nV_at, wV_at]
  simp only [lV_at, eV_at, dpV_at]
  rw [ds_quot (by norm_num) _ _ (S_coe _ _ hQ hK b (hd a g) t)]

theorem q_at (r : Fin 4096) (l : Fin 512) :
    qV A1 (zV (eV (sV A0 A1) (mxV (sV A0 A1))) (dpV A3 A2) (lV (eV (sV A0 A1) (mxV (sV A0 A1))))
        (nV (wV (eV (sV A0 A1) (mxV (sV A0 A1))) (dpV A3 A2) (lV (eV (sV A0 A1) (mxV (sV A0 A1))))))) (ix2 r l)
      = gQ (fun r l => A0 (ix2 r l)) (fun r l => A1 (ix2 r l)) (fun r l => A2 (ix2 r l)) (fun r l => A3 (ix2 r l))
          (bq r) (hd (aQ l) (gQQ l)) (tq r) (dQ l) * κ := by
  rw [qV_at]
  simp only [z_at A0 A3 A1 A2 hQ hK]
  obtain ⟨c, hc, e⟩ := κ_coe
  obtain ⟨u, hu, eu, -⟩ := inv_coe (by norm_num) _ (S_coe _ _ hQ hK (bq r) (hd (aQ l) (gQQ l)) (tq r))
  rw [gQ, eu, e, sum_mul _ u hu, sum_mul _ c hc]
  refine Finset.sum_congr rfl fun d _ => ?_
  ac_rfl

theorem k_at (r : Fin 4096) (l : Fin 128) :
    kV A0 (zV (eV (sV A0 A1) (mxV (sV A0 A1))) (dpV A3 A2) (lV (eV (sV A0 A1) (mxV (sV A0 A1))))
        (nV (wV (eV (sV A0 A1) (mxV (sV A0 A1))) (dpV A3 A2) (lV (eV (sV A0 A1) (mxV (sV A0 A1))))))) (ix2 r l)
      = ∑ g, gK (fun r l => A0 (ix2 r l)) (fun r l => A1 (ix2 r l)) (fun r l => A2 (ix2 r l)) (fun r l => A3 (ix2 r l))
          (bq r) (hd (aK l) g) (tq r) (dK l) := by
  rw [kV_at]
  simp only [z_at A0 A3 A1 A2 hQ hK, gK]
  refine Finset.sum_congr rfl fun g _ => Finset.sum_congr rfl fun t _ => ?_
  ac_rfl

theorem v_at (r : Fin 4096) (l : Fin 128) :
    vV A3 (eV (sV A0 A1) (mxV (sV A0 A1))) (lV (eV (sV A0 A1) (mxV (sV A0 A1)))) (ix2 r l)
      = ∑ g, gV (fun r l => A0 (ix2 r l)) (fun r l => A1 (ix2 r l)) (fun r l => A3 (ix2 r l))
          (bq r) (hd (aK l) g) (tq r) (dK l) := by
  rw [vV_at]
  simp only [lV_at, eV_at, gV]
  refine Finset.sum_congr rfl fun g _ => Finset.sum_congr rfl fun t _ => ?_
  obtain ⟨u, hu, eu, hd', -⟩ := inv_coe (by norm_num) _ (S_coe _ _ hQ hK (bq r) (hd (aK l) g) t)
  rw [hd', eu]
  ac_rfl

end

variable (m : (ℓ : Loc nD τ sig) → Buf (Elt Ideal) ℓ) (c : Dev nD)

theorem res_q : res_main_v64 m c = qV (m ((c.tc : Thread nD τ).loc main_arg1)) (zV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1))))))
        (nV (wV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1))))))))) := rfl

end Cert.ReferenceIdeal.Value

end
-- ==== Proof.RefRun.lean ====
/-
  The reference's run, its three results written with the stages of `RefAt`.
-/
module

public import proofs.«01_k».proof.Proof.RefAt
public import Idealize.ShloMosaic.Lib.StableHlo.RunHlo
public import Idealize.ShloMosaic.Lib.Claim

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ)

theorem res_k (c : Dev nD) : res_main_v63 m c = kV (m ((c.tc : Thread nD τ).loc main_arg0)) (zV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1)))))) (nV (wV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1))))))))) := rfl

theorem staged (g : Dev nD → PrngReg) :
    θ_run defs (onTc (τ := τ) (main (F := Ideal))) ⟨m, fun _ => 0, g⟩ fun r => ∀ c : Dev nD,
      r.2.mem ((c.tc : Thread nD τ).loc main_v64) = qV (m ((c.tc : Thread nD τ).loc main_arg1)) (zV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1)))))) (nV (wV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1)))))))))
      ∧ r.2.mem ((c.tc : Thread nD τ).loc main_v63) = kV (m ((c.tc : Thread nD τ).loc main_arg0)) (zV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1)))))) (nV (wV (eV (sV (m ((c.tc : Thread nD τ).loc main_arg0)) (m ((c.tc : Thread nD τ).loc main_arg1))) (mxV (sV (m ((c.tc : Thread nD τ).loc main_arg0)) (m ((c.tc : Thread nD τ).loc main_arg1))))) (dpV (m ((c.tc : Thread nD τ).loc main_arg3)) (m ((c.tc : Thread nD τ).loc main_arg2))) (lV (eV (sV (m ((c.tc : Thread nD τ).loc main_arg0)) (m ((c.tc : Thread nD τ).loc main_arg1))) (mxV (sV (m ((c.tc : Thread nD τ).loc main_arg0)) (m ((c.tc : Thread nD τ).loc main_arg1)))))))))
      ∧ r.2.mem ((c.tc : Thread nD τ).loc main_v62) = vV (m ((c.tc : Thread nD τ).loc main_arg3)) (eV (sV (m ((c.tc : Thread nD τ).loc main_arg0)) (m ((c.tc : Thread nD τ).loc main_arg1))) (mxV (sV (m ((c.tc : Thread nD τ).loc main_arg0)) (m ((c.tc : Thread nD τ).loc main_arg1))))) (lV (eV (sV (m ((c.tc : Thread nD τ).loc main_arg0)) (m ((c.tc : Thread nD τ).loc main_arg1))) (mxV (sV (m ((c.tc : Thread nD τ).loc main_arg0)) (m ((c.tc : Thread nD τ).loc main_arg1))))))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  (θ_run defs _ _).mono (fun _ h c => ⟨(h c).1.trans (res_q m c), (h c).2.1.trans (res_k m c), (h c).2.2.1.trans rfl, (h c).2.2.2⟩)
    (run m g)

end Cert.ReferenceIdeal.Value

end
-- ==== Proof.Algebraic.lean ====
/-
  The kernel's gradients of `q`, `k` and `v` are the reference's.
-/
module

public import proofs.«01_k».proof.Defs
public import proofs.«01_k».proof.Proof.Out
public import proofs.«01_k».proof.Proof.RefRun
public import Idealize.ShloMosaic.Lib.Claim
public import Idealize.ShloMosaic.Lib.StableHlo.RunHlo

@[expose] public section

set_option maxRecDepth 16384

noncomputable section

open Idealize.ShloMosaic Idealize.SL.Sem

namespace Cert.Proof

instance facts_pre : Cert.Pre_finite_scores.Facts := by
  constructor <;> decide

/-- An extended real whose size compares below the largest word is a real number. -/
theorem real_of_lt (x : EReal) (h : Ideal.cmp .olt (max x (-x)) ⊤ = 1#1) : ∃ y : ℝ, x = y := by
  have h' : max x (-x) < ⊤ := by
    by_contra hc
    simp [Ideal.cmp, hc] at h
  have hx := max_lt_iff.1 h'
  induction x with
  | bot => simp at hx
  | top => simp at hx
  | coe y => exact ⟨y, rfl⟩

theorem ex_2 {n k : Nat} (x : (⟨2, ![n, k]⟩ : Shape).Idx) : ∃ (a : Fin n) (b : Fin k), x = ix2 a b :=
  ⟨x 0, x 1, by funext i; fin_cases i <;> rfl⟩

theorem top_word : Ideal.ofBits .f32 0x7F800000#32 = ⊤ := by
  simp [Ideal.ofBits, Ideal.ieee]

section
variable (m : (ℓ : Loc Cert.KernelIdeal.nD Cert.KernelIdeal.τ Cert.KernelIdeal.sig) → Buf (Elt Ideal) ℓ)
variable (hp : Cert.Pre_KernelIdeal_finite_scores m) (c : Dev Cert.KernelIdeal.nD)
include hp

theorem real_q (r : Fin 4096) (l : Fin 512) :
    ∃ x : ℝ, (show EReal from m ((c.tc : Thread Cert.KernelIdeal.nD Cert.KernelIdeal.τ).loc Cert.KernelIdeal.main_arg0) (ix2 r l)) = x := by
  have h := congrFun (hp c).1 (ix2 r l)
  refine real_of_lt _ ?_
  rw [← top_word]
  exact h

theorem real_k (r : Fin 4096) (l : Fin 128) :
    ∃ x : ℝ, (show EReal from m ((c.tc : Thread Cert.KernelIdeal.nD Cert.KernelIdeal.τ).loc Cert.KernelIdeal.main_arg1) (ix2 r l)) = x := by
  have h := congrFun (hp c).2 (ix2 r l)
  refine real_of_lt _ ?_
  rw [← top_word]
  exact h

open Cert.ReferenceIdeal.Value

theorem eq_q : qV (m ((c.tc : Thread Cert.KernelIdeal.nD Cert.KernelIdeal.τ).loc Cert.KernelIdeal.main_arg1)) (zV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) (dpV (m ((c.tc : Thread Cert.KernelIdeal.nD Cert.KernelIdeal.τ).loc Cert.KernelIdeal.main_arg3)) (m ((c.tc : Thread Cert.KernelIdeal.nD Cert.KernelIdeal.τ).loc Cert.KernelIdeal.main_arg2))) (lV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1)))))) (nV (wV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) (dpV (m ((c.tc : Thread Cert.KernelIdeal.nD Cert.KernelIdeal.τ).loc Cert.KernelIdeal.main_arg3)) (m ((c.tc : Thread Cert.KernelIdeal.nD Cert.KernelIdeal.τ).loc Cert.KernelIdeal.main_arg2))) (lV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))))))) = Cert.KernelIdeal.Value.res m c Cert.KernelIdeal.main_v37 := by
  funext i
  obtain ⟨r, l, rfl⟩ : ∃ r l, i = ix2 r l := ex_2 i
  exact (q_at _ _ _ _ (real_q m hp c) (real_k m hp c) r l).trans (Cert.KernelIdeal.Value.out_dq m c r l).symm

theorem eq_k : kV (m ((c.tc : Thread Cert.KernelIdeal.nD Cert.KernelIdeal.τ).loc Cert.KernelIdeal.main_arg0)) (zV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) (dpV (m ((c.tc : Thread Cert.KernelIdeal.nD Cert.KernelIdeal.τ).loc Cert.KernelIdeal.main_arg3)) (m ((c.tc : Thread Cert.KernelIdeal.nD Cert.KernelIdeal.τ).loc Cert.KernelIdeal.main_arg2))) (lV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1)))))) (nV (wV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) (dpV (m ((c.tc : Thread Cert.KernelIdeal.nD Cert.KernelIdeal.τ).loc Cert.KernelIdeal.main_arg3)) (m ((c.tc : Thread Cert.KernelIdeal.nD Cert.KernelIdeal.τ).loc Cert.KernelIdeal.main_arg2))) (lV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))))))) = Cert.KernelIdeal.Value.res m c Cert.KernelIdeal.main_v55 := by
  funext i
  obtain ⟨r, l, rfl⟩ : ∃ r l, i = ix2 r l := ex_2 i
  exact (k_at _ _ _ _ (real_q m hp c) (real_k m hp c) r l).trans (Cert.KernelIdeal.Value.out_dk m c r l).symm

theorem eq_v : vV (m ((c.tc : Thread Cert.KernelIdeal.nD Cert.KernelIdeal.τ).loc Cert.KernelIdeal.main_arg3)) (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) (lV (eV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (mxV (sV (m ((c.tc : Thread Cert.KernelIdeal.nD Cert.KernelIdeal.τ).loc Cert.KernelIdeal.main_arg0)) (m ((c.tc : Thread Cert.KernelIdeal.nD Cert.KernelIdeal.τ).loc Cert.KernelIdeal.main_arg1)))))) = Cert.KernelIdeal.Value.res m c Cert.KernelIdeal.main_v73 := by
  funext i
  obtain ⟨r, l, rfl⟩ : ∃ r l, i = ix2 r l := ex_2 i
  exact (v_at (A0 := (m ((c.tc : Thread Cert.KernelIdeal.nD Cert.KernelIdeal.τ).loc Cert.KernelIdeal.main_arg0))) (A3 := (m ((c.tc : Thread Cert.KernelIdeal.nD Cert.KernelIdeal.τ).loc Cert.KernelIdeal.main_arg3))) (A1 := (m ((c.tc : Thread Cert.KernelIdeal.nD Cert.KernelIdeal.τ).loc Cert.KernelIdeal.main_arg1))) (real_q m hp c) (real_k m hp c) r l).trans (Cert.KernelIdeal.Value.out_dv m c r l).symm

end

set_option maxHeartbeats 1600000 in
theorem algebraic : Cert.algebraic_KernelIdeal_ReferenceIdeal_pre_finite_scores := by
  pair_intro
  · run_from Cert.KernelIdeal.Gen.run_main m g
    · exact Cert.KernelIdeal.Gen.W_main_arg0 m _ _
    · exact Cert.KernelIdeal.Gen.W_main_arg1 m _ _
    · exact Cert.KernelIdeal.Gen.W_main_arg2 m _ _
  · run_from Cert.ReferenceIdeal.Value.staged m' g'
    · exact eq_q m hpre c
    · exact eq_k m hpre c
    · exact eq_v m hpre c

theorem frame_reference : Cert.quiescent_ReferenceIdeal := by
  intro m g _
  hlo_run
  · exact fun _ => ⟨trivial, trivial, trivial, trivial⟩
  exact Idealize.ShloMosaic.sem_eq_zero_of_no_sems (sig := Cert.ReferenceIdeal.sig) (by decide) _

theorem frame_reference_pre : Cert.quiescent_ReferenceIdeal_pre_finite_scores := by
  intro m g _
  hlo_run
  · exact fun _ => ⟨trivial, trivial, trivial, trivial⟩
  exact Idealize.ShloMosaic.sem_eq_zero_of_no_sems (sig := Cert.ReferenceIdeal.sig) (by decide) _

end Cert.Proof

end
-- ==== Proof.GradW.lean ====
/-
  The weight gradient of the input projection: the array its call writes and the reference's product, read at an index, are one sum over
  the 4096 rows.
-/
module

public import proofs.«01_k».proof.Proof.Spec
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Att

variable (m : (ℓ : Loc nD τ sig) → Buf (Elt Ideal) ℓ) (c : Dev nD)

theorem idx : ∀ t : Fin cfg0.N,
    win0_0.index t = ![0, 0] ∧ win0_1.index t = ![0, (t : ℕ)] ∧ win0_2.index t = ![0, (t : ℕ)] :=
  (by decide +kernel : ∀ t : Fin grid0.N, _)

theorem lt3 (t : Fin cfg0.N) : (t : ℕ) < 3 := lt_of_lt_of_eq t.isLt (show cfg0.N = 3 from N_0)

/-- Column `b` of the point's block. -/
abbrev ct (t : Fin cfg0.N) (b : Fin 1152) : Fin 3456 := ⟨1152 * t + b, by have := lt3 t; omega⟩

theorem emb0 (t : Fin cfg0.N) (r : Fin 4096) (a : Fin 1024) : (win0_0.blk t).view.emb (ix2 r a) = ix2 r a := by
  blk_ext [idx t]

theorem emb1 (t : Fin cfg0.N) (r : Fin 4096) (b : Fin 1152) : (win0_1.blk t).view.emb (ix2 r b) = ix2 r (ct t b) := by
  blk_ext [idx t]

theorem emb2 (t : Fin cfg0.N) (a : Fin 1024) (b : Fin 1152) : (win0_2.blk t).view.emb (ix2 a b) = ix2 a (ct t b) := by
  blk_ext [idx t]

theorem blk0 (t : Fin cfg0.N) (r : Fin 4096) (a : Fin 1024) :
    (show EReal from iblk m c 0 t (ix2 r a)) = m ((c.tc : Thread nD τ).loc main_arg0) (ix2 r a) := by
  blk_simp [iblk]
  rw [emb0]

theorem blk1 (t : Fin cfg0.N) (r : Fin 4096) (b : Fin 1152) :
    (show EReal from iblk m c 1 t (ix2 r b)) = m ((c.tc : Thread nD τ).loc main_arg1) (ix2 r (ct t b)) := by
  blk_simp [iblk]
  rw [emb1]

theorem payW (x0 : FVec Ideal S4096x1024 .bf16) (x1 : FVec Ideal S4096x1152 .bf16) (a : Fin 1024) (b : Fin 1152) :
    k0_pay4 (F := Ideal) (k0_pay2 (F := Ideal) x0 x1) (ix2 a b) = ∑ r : Fin 4096, x0 (ix2 r a) * x1 (ix2 r b) := by
  pointwise [k0_pay4, k0_pay2, k0_pay1]

theorem outs (t : Fin cfg0.N) : outsAt0 m c t = k0_pay4 (F := Ideal) (k0_pay2 (F := Ideal) (iblk m c 0 t) (iblk m c 1 t)) := by
  unfold outsAt0
  frame_out

/-- The gradient at a row and a column of the weight. -/
abbrev gW (H : S4096x1024.Idx → EReal) (D : S4096x3456.Idx → EReal) : S1024x3456.Idx → EReal := fun y =>
  ∑ r : Fin 4096, H (ix2 r (y 0)) * D (ix2 r (y 1))

theorem ex_ix2 (x : S1024x1152.Idx) : ∃ (a : Fin 1024) (b : Fin 1152), x = ix2 a b :=
  ⟨x 0, x 1, by ext i; fin_cases i <;> rfl⟩

theorem arr2 : (dats m 0 c).arrAt 2 cfg0.N =
    gW (m ((c.tc : Thread nD τ).loc main_arg0)) (m ((c.tc : Thread nD τ).loc main_arg1)) := by
  refine (dats m 0 c).arrAt_eq_of_covers 2 _ (by decide +kernel) fun t hf y => ?_
  rw [after0_2, outs]
  blk_simp
  obtain ⟨a, b, rfl⟩ := ex_ix2 y
  refine (payW _ _ a b).trans ?_
  rw [emb2]
  exact Finset.sum_congr rfl fun r _ => congrArg₂ (· * ·) (blk0 m c t r a) (blk1 m c t r b)

end Cert.Kernel2Ideal.Value

namespace Cert.Reference2Ideal.Value

open Cert.Reference2Ideal Cert.Reference2Ideal.Gen Cert.Att

variable (H : FVec Ideal S4096x1024 .bf16) (D : FVec Ideal S4096x3456 .bf16)

/-- The reference's product. -/
def wG : FVec Ideal S1024x3456 .bf16 :=
  truncf .bf16 (transpose S1024x3456 [1, 0] (Host.dotGeneral dot_S2x2048x3456_S2x2048x1024_S3456x1024_01_01_2_2_n_n none (shapeCast _ (extf .f32 D bitsLt_bf16_f32) shapeCasts_S4096x3456_S2x2048x3456) (shapeCast _ (extf .f32 H bitsLt_bf16_f32) shapeCasts_S4096x1024_S2x2048x1024)) transposes_S3456x1024_S1024x3456_1_0) bitsLt_bf16_f32

/-- The rows of the two sequences, one after the other. -/
theorem rows (f : Fin 4096 → EReal) : (∑ b : Fin 2, ∑ t : Fin 2048, f (row b t)) = ∑ r, f r := by
  rw [Fin.sum_univ_two_halves 2048 2048 rfl f, Fin.sum_univ_two]
  simp [row]

theorem wG_at (a : Fin 1024) (p : Fin 3456) : wG H D (ix2 a p) = ∑ r : Fin 4096, H (ix2 r a) * D (ix2 r p) := by
  rw [← rows]
  pointwise [wG, row]
  refine Finset.sum_congr rfl fun b _ => Finset.sum_congr rfl fun t _ => ?_
  rw [mul_comm]
  congr 3 <;> apply Fin.ext <;> simp only [] <;> omega

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v8) = wG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (run m g)

end Cert.Reference2Ideal.Value

end
-- ==== Proof.FwdHost.lean ====
/-
  The host operations before the attention's forward call: what they leave in the arrays its windows read.
-/
module

public import proofs.«01_k».proof.Proof.Gen.Kernel3Ideal.Frame
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.StableHlo.ReadAt
public import proofs.«01_k».proof.Proof.Host
public import proofs.«01_k».proof.Proof.Spec

@[expose] public section

set_option maxRecDepth 16384

noncomputable section

open Idealize.ShloMosaic Idealize.ShloMosaic.TcCoe Idealize.SL.Sem

namespace Cert.Kernel3Ideal.Value

open Cert.Kernel3Ideal Cert.Kernel3Ideal.Gen
open Cert.KernelIdeal.Value (padAt padBlk concat4 pad0 pad1 pad2 pad3 ex_ix3)
open Cert.Att (κ)

variable (m : (ℓ : Loc nD τ sig) → Buf (Elt Ideal) ℓ)

theorem V_q (c : Dev nD) (r : Fin 4096) (l : Fin 512) :
    (show EReal from V m c main_v2 (ix2 r l)) = (show EReal from m ((c.tc : Thread nD τ).loc main_arg0) (ix2 r l)) * κ := by
  unfold V
  simp only [List.flatten_cons, List.flatten_nil, List.append_nil]
  after_reads_at

set_option maxHeartbeats 6400000 in
theorem V_k (c : Dev nD) (s : Fin 4) (r : Fin 4096) (l : Fin 128) :
    V m c main_v18 (ix3 s r l) = padAt (m ((c.tc : Thread nD τ).loc main_arg1)) s r l := by
  unfold V
  simp only [List.flatten_cons, List.flatten_nil, List.append_nil]
  after_reads_simp
  refine (congrFun (concat4 (b0 := padBlk (m ((c.tc : Thread nD τ).loc main_arg1)) 0) (b1 := padBlk (m ((c.tc : Thread nD τ).loc main_arg1)) 1)
    (b2 := padBlk (m ((c.tc : Thread nD τ).loc main_arg1)) 2) (b3 := padBlk (m ((c.tc : Thread nD τ).loc main_arg1)) 3) ?_ ?_ ?_ ?_) (ix3 s r l)).trans ?_
  · funext x
    obtain ⟨z, a, b, rfl⟩ := ex_ix3 x
    change (StableHlo.unary _ _ _ _ _).result _ (Proc.tc.devRef main_v14) _ = _
    after_reads_at
    pointwise [id_eq, padAt]
    exact pad0 (m ((c.tc : Thread nD τ).loc main_arg1)) a b
  · funext x
    obtain ⟨z, a, b, rfl⟩ := ex_ix3 x
    change (StableHlo.unary _ _ _ _ _).result _ (Proc.tc.devRef main_v15) _ = _
    after_reads_at
    after_reads_at
    pointwise [id_eq, padAt]
    exact pad1 (m ((c.tc : Thread nD τ).loc main_arg1)) a b
  · funext x
    obtain ⟨z, a, b, rfl⟩ := ex_ix3 x
    change (StableHlo.unary _ _ _ _ _).result _ (Proc.tc.devRef main_v16) _ = _
    after_reads_at
    after_reads_at
    pointwise [id_eq, padAt]
    exact pad2 (m ((c.tc : Thread nD τ).loc main_arg1)) a b
  · funext x
    obtain ⟨z, a, b, rfl⟩ := ex_ix3 x
    change (StableHlo.unary _ _ _ _ _).result _ (Proc.tc.devRef main_v17) _ = _
    after_reads_at
    pointwise [id_eq, padAt]
    exact pad3 (m ((c.tc : Thread nD τ).loc main_arg1)) a b
  · pointwise [padAt]
    obtain ⟨s, hs⟩ := s
    interval_cases s <;> simp

set_option maxHeartbeats 6400000 in
theorem V_v (c : Dev nD) (s : Fin 4) (r : Fin 4096) (l : Fin 128) :
    V m c main_v34 (ix3 s r l) = padAt (m ((c.tc : Thread nD τ).loc main_arg2)) s r l := by
  unfold V
  simp only [List.flatten_cons, List.flatten_nil, List.append_nil]
  after_reads_simp
  refine (congrFun (concat4 (b0 := padBlk (m ((c.tc : Thread nD τ).loc main_arg2)) 0) (b1 := padBlk (m ((c.tc : Thread nD τ).loc main_arg2)) 1)
    (b2 := padBlk (m ((c.tc : Thread nD τ).loc main_arg2)) 2) (b3 := padBlk (m ((c.tc : Thread nD τ).loc main_arg2)) 3) ?_ ?_ ?_ ?_) (ix3 s r l)).trans ?_
  · funext x
    obtain ⟨z, a, b, rfl⟩ := ex_ix3 x
    change (StableHlo.unary _ _ _ _ _).result _ (Proc.tc.devRef main_v30) _ = _
    after_reads_at
    pointwise [id_eq, padAt]
    exact pad0 (m ((c.tc : Thread nD τ).loc main_arg2)) a b
  · funext x
    obtain ⟨z, a, b, rfl⟩ := ex_ix3 x
    change (StableHlo.unary _ _ _ _ _).result _ (Proc.tc.devRef main_v31) _ = _
    after_reads_at
    after_reads_at
    pointwise [id_eq, padAt]
    exact pad1 (m ((c.tc : Thread nD τ).loc main_arg2)) a b
  · funext x
    obtain ⟨z, a, b, rfl⟩ := ex_ix3 x
    change (StableHlo.unary _ _ _ _ _).result _ (Proc.tc.devRef main_v32) _ = _
    after_reads_at
    after_reads_at
    pointwise [id_eq, padAt]
    exact pad2 (m ((c.tc : Thread nD τ).loc main_arg2)) a b
  · funext x
    obtain ⟨z, a, b, rfl⟩ := ex_ix3 x
    change (StableHlo.unary _ _ _ _ _).result _ (Proc.tc.devRef main_v33) _ = _
    after_reads_at
    pointwise [id_eq, padAt]
    exact pad3 (m ((c.tc : Thread nD τ).loc main_arg2)) a b
  · pointwise [padAt]
    obtain ⟨s, hs⟩ := s
    interval_cases s <;> simp

end Cert.Kernel3Ideal.Value

end
-- ==== Proof.Fwd.lean ====
/-
  The attention's forward call: what a grid point reads and computes, and the array the call writes, element by element.
-/
module

public import proofs.«01_k».proof.Proof.Arr
public import proofs.«01_k».proof.Proof.FwdHost
public import proofs.«01_k».proof.Proof.Gen.Kernel3Ideal.Value

@[expose] public section

set_option maxRecDepth 16384

noncomputable section

open Idealize.ShloMosaic Idealize.ShloMosaic.TcCoe Idealize.SL.Sem

namespace Cert.Att

open Cert.Row

/-- The attention's output. -/
def gO (Q : Fin 4096 → Fin 512 → EReal) (K V : Fin 4096 → Fin 128 → EReal) (b : Fin 2) (h : Fin 8) (t : Fin 2048) (d : Fin 64) : EReal :=
  (∑ j, ex (S Q K b h t) j * V (row b j) (klane h d)) * rinv (S Q K b h t)

end Cert.Att

namespace Cert.Kernel3Ideal.Value

open Cert.Kernel3Ideal Cert.Kernel3Ideal.Gen Cert.Row Cert.Att
open Cert.KernelIdeal.Value (padAt ofBits_ninf lanes_left lanes_right bq_row tq_row)

/-- The scores of query row `r` against the keys of one side: products of rows of 128 lanes. -/
def sc (q : FVec Ideal S256x128 .bf16) (k : FVec Ideal S1x2048x128 .bf16) (r : Fin 256) (j : Fin 2048) : EReal :=
  ∑ l : Fin 128, q (ix2 r l) * k (ix3 0 j l)

theorem pay3 (q : FVec Ideal S256x128 .bf16) (k : FVec Ideal S1x2048x128 .bf16) (r : Fin 256) (j : Fin 2048) :
    k0_pay3 (F := Ideal) q k (ix2 r j) = ex (sc q k r) j := by
  pointwise [k0_pay3, k0_pay2, ex, sc, ofBits_ninf]

theorem pay4 (q : FVec Ideal S256x128 .bf16) (k : FVec Ideal S1x2048x128 .bf16) (r : Fin 256) :
    k0_pay4 (F := Ideal) q k (ix2 r 0) = rinv (sc q k r) := by
  pointwise [k0_pay4, pay3, rinv]

theorem pay5 (q : FVec Ideal S256x128 .bf16) (k v : FVec Ideal S1x2048x128 .bf16) (r : Fin 256) (l : Fin 128) :
    k0_pay5 (F := Ideal) q k v (ix2 r l) = (∑ j, ex (sc q k r) j * v (ix3 0 j l)) * rinv (sc q k r) := by
  pointwise [k0_pay5, k0_pay2, ex, sc, rinv, ofBits_ninf]

/-- The block of the output that one point computes. -/
abbrev oBlk (q : FVec Ideal S256x128 .bf16) (kl kr vl vr : FVec Ideal S1x2048x128 .bf16) : FVec Ideal S256x128 .f32 :=
  k0_pay1 (F := Ideal) (k0_pay3 (F := Ideal) q kr) (k0_pay4 (F := Ideal) q kr) (k0_pay5 (F := Ideal) q kl vl) (k0_pay6 (F := Ideal) vr)

theorem oBlk_at (q : FVec Ideal S256x128 .bf16) (kl kr vl vr : FVec Ideal S1x2048x128 .bf16) (r : Fin 256) (l : Fin 128) :
    oBlk q kl kr vl vr (ix2 r l)
      = (∑ j, ex (sc q kl r) j * vl (ix3 0 j l)) * rinv (sc q kl r) + (∑ j, ex (sc q kr r) j * vr (ix3 0 j l)) * rinv (sc q kr r) := by
  pointwise [oBlk, k0_pay1, k0_pay6, pay3, pay4, pay5]

/-- The grid point's numbers: the sequence, the pair of heads, the block of rows. -/
abbrev bt (t : Fin cfg0.N) : Fin 2 := ⟨t / 32, by have := lt_of_lt_of_eq t.isLt (show cfg0.N = 64 from N_0); omega⟩
abbrev pt (t : Fin cfg0.N) : Fin 4 := ⟨t / 8 % 4, by omega⟩
abbrev it (t : Fin cfg0.N) : Fin 8 := ⟨t % 8, by omega⟩

theorem idx : ∀ t : Fin cfg0.N,
    win0_0.index t = ![(t : ℕ) / 32 * 8 + t % 8, (t : ℕ) / 8 % 4] ∧
    win0_1.index t = ![2 * ((t : ℕ) / 8 % 4 / 2), (t : ℕ) / 32, 0] ∧
    win0_2.index t = ![2 * ((t : ℕ) / 8 % 4 / 2) + 1, (t : ℕ) / 32, 0] ∧
    win0_3.index t = ![2 * ((t : ℕ) / 8 % 4 / 2), (t : ℕ) / 32, 0] ∧
    win0_4.index t = ![2 * ((t : ℕ) / 8 % 4 / 2) + 1, (t : ℕ) / 32, 0] ∧
    win0_5.index t = ![(t : ℕ) / 32 * 8 + t % 8, (t : ℕ) / 8 % 4] :=
  (by decide +kernel : ∀ t : Fin grid0.N, _)

variable (m : (ℓ : Loc nD τ sig) → Buf (Elt Ideal) ℓ) (c : Dev nD)

/-- The arguments as functions of a row and a lane. -/
abbrev aq : Fin 4096 → Fin 512 → EReal := fun r l => m ((c.tc : Thread nD τ).loc main_arg0) (ix2 r l)
abbrev ak : Fin 4096 → Fin 128 → EReal := fun r l => m ((c.tc : Thread nD τ).loc main_arg1) (ix2 r l)
abbrev av : Fin 4096 → Fin 128 → EReal := fun r l => m ((c.tc : Thread nD τ).loc main_arg2) (ix2 r l)

/-- Row `r` of the point's block of query rows; lane `l` of its pair of heads. -/
abbrev rt (t : Fin cfg0.N) (r : Fin 256) : Fin 2048 := ⟨256 * it t + r, by have := (it t).isLt; omega⟩
abbrev lt (t : Fin cfg0.N) (l : Fin 128) : Fin 512 := ⟨128 * pt t + l, by have := (pt t).isLt; omega⟩

theorem emb0 (t : Fin cfg0.N) (r : Fin 256) (l : Fin 128) :
    (win0_0.blk t).view.emb (ix2 r l) = ix2 (row (bt t) (rt t r)) (lt t l) := by
  blk_ext [idx t, row]

theorem emb1 (t : Fin cfg0.N) (j : Fin 2048) (l : Fin 128) :
    (win0_1.blk t).view.emb (ix3 0 j l) = ix3 ⟨2 * (pt t / 2), by omega⟩ (row (bt t) j) l := by
  blk_ext [idx t, row]

theorem emb2 (t : Fin cfg0.N) (j : Fin 2048) (l : Fin 128) :
    (win0_2.blk t).view.emb (ix3 0 j l) = ix3 ⟨2 * (pt t / 2) + 1, by omega⟩ (row (bt t) j) l := by
  blk_ext [idx t, row]

theorem emb3 (t : Fin cfg0.N) (j : Fin 2048) (l : Fin 128) :
    (win0_3.blk t).view.emb (ix3 0 j l) = ix3 ⟨2 * (pt t / 2), by omega⟩ (row (bt t) j) l := by
  blk_ext [idx t, row]

theorem emb4 (t : Fin cfg0.N) (j : Fin 2048) (l : Fin 128) :
    (win0_4.blk t).view.emb (ix3 0 j l) = ix3 ⟨2 * (pt t / 2) + 1, by omega⟩ (row (bt t) j) l := by
  blk_ext [idx t, row]

theorem emb5 (t : Fin cfg0.N) (r : Fin 256) (l : Fin 128) :
    (win0_5.blk t).view.emb (ix2 r l) = ix2 (row (bt t) (rt t r)) (lt t l) := by
  blk_ext [idx t, row]

theorem blk0 (t : Fin cfg0.N) (r : Fin 256) (l : Fin 128) :
    (show EReal from iblk m c 0 t (ix2 r l)) = aq m c (row (bt t) (rt t r)) (lt t l) * κ := by
  blk_simp [iblk]
  rw [emb0]
  exact V_q m c _ _

theorem blk1 (t : Fin cfg0.N) (j : Fin 2048) (l : Fin 128) :
    (show EReal from iblk m c 1 t (ix3 0 j l)) = padAt (m ((c.tc : Thread nD τ).loc main_arg1)) ⟨2 * (pt t / 2), by omega⟩ (row (bt t) j) l := by
  blk_simp [iblk]
  rw [emb1]
  exact V_k m c _ _ _

theorem blk2 (t : Fin cfg0.N) (j : Fin 2048) (l : Fin 128) :
    (show EReal from iblk m c 2 t (ix3 0 j l)) = padAt (m ((c.tc : Thread nD τ).loc main_arg1)) ⟨2 * (pt t / 2) + 1, by omega⟩ (row (bt t) j) l := by
  blk_simp [iblk]
  rw [emb2]
  exact V_k m c _ _ _

theorem blk3 (t : Fin cfg0.N) (j : Fin 2048) (l : Fin 128) :
    (show EReal from iblk m c 3 t (ix3 0 j l)) = padAt (m ((c.tc : Thread nD τ).loc main_arg2)) ⟨2 * (pt t / 2), by omega⟩ (row (bt t) j) l := by
  blk_simp [iblk]
  rw [emb3]
  exact V_v m c _ _ _

theorem blk4 (t : Fin cfg0.N) (j : Fin 2048) (l : Fin 128) :
    (show EReal from iblk m c 4 t (ix3 0 j l)) = padAt (m ((c.tc : Thread nD τ).loc main_arg2)) ⟨2 * (pt t / 2) + 1, by omega⟩ (row (bt t) j) l := by
  blk_simp [iblk]
  rw [emb4]
  exact V_v m c _ _ _

/-- The two heads of the point's pair. -/
abbrev hl (t : Fin cfg0.N) : Fin 8 := ⟨2 * pt t, by have := (pt t).isLt; omega⟩
abbrev hr (t : Fin cfg0.N) : Fin 8 := ⟨2 * pt t + 1, by have := (pt t).isLt; omega⟩

theorem pad_left (K : FVec Ideal S4096x128 .f32) (t : Fin cfg0.N) (r : Fin 4096) (l : Fin 128) :
    padAt K ⟨2 * (pt t / 2), by omega⟩ r l = if (l : ℕ) < 64 then K (ix2 r (klane (hl t) ⟨l % 64, by omega⟩)) else 0 := by
  have h : (2 * ((pt t : ℕ) / 2)) % 2 = 0 := by omega
  have e : (⟨64 * (2 * ((pt t : ℕ) / 2) / 2) + (l : ℕ) % 64, by have := (pt t).isLt; omega⟩ : Fin 128) = klane (hl t) ⟨l % 64, by omega⟩ :=
    Fin.ext (by simp only [klane, hl]; omega)
  simp only [padAt, h, true_iff, e]

theorem pad_right (K : FVec Ideal S4096x128 .f32) (t : Fin cfg0.N) (r : Fin 4096) (l : Fin 128) :
    padAt K ⟨2 * (pt t / 2) + 1, by omega⟩ r l = if (l : ℕ) < 64 then 0 else K (ix2 r (klane (hr t) ⟨l % 64, by omega⟩)) := by
  have h : ¬ (2 * ((pt t : ℕ) / 2) + 1) % 2 = 0 := by omega
  have e : (⟨64 * ((2 * ((pt t : ℕ) / 2) + 1) / 2) + (l : ℕ) % 64, by have := (pt t).isLt; omega⟩ : Fin 128) = klane (hr t) ⟨l % 64, by omega⟩ :=
    Fin.ext (by simp only [klane, hr]; omega)
  simp only [padAt, h, false_iff, e]
  by_cases hl : (l : ℕ) < 64 <;> simp [hl]

theorem lt_left (t : Fin cfg0.N) (d : Fin 64) : lt t ⟨d, by omega⟩ = lane (hl t) d := Fin.ext (by simp only [lane, hl]; omega)
theorem lt_right (t : Fin cfg0.N) (d : Fin 64) : lt t ⟨64 + d, by omega⟩ = lane (hr t) d := Fin.ext (by simp only [lane, hr]; omega)

theorem sc_left (t : Fin cfg0.N) (r : Fin 256) : sc (iblk m c 0 t) (iblk m c 1 t) r = S (aq m c) (ak m c) (bt t) (hl t) (rt t r) := by
  funext j
  refine (Finset.sum_congr rfl fun l _ => by rw [show (iblk m c 0 t (ix2 r l) : EReal) = _ from blk0 m c t r l, show (iblk m c 1 t (ix3 0 j l) : EReal) = _ from blk1 m c t j l, pad_left]).trans ?_
  rw [lanes_left (fun l => aq m c (row (bt t) (rt t r)) (lt t l) * κ) (fun d => ak m c (row (bt t) j) (klane (hl t) d))]
  simp only [lt_left, S]

theorem sc_right (t : Fin cfg0.N) (r : Fin 256) : sc (iblk m c 0 t) (iblk m c 2 t) r = S (aq m c) (ak m c) (bt t) (hr t) (rt t r) := by
  funext j
  refine (Finset.sum_congr rfl fun l _ => by rw [show (iblk m c 0 t (ix2 r l) : EReal) = _ from blk0 m c t r l, show (iblk m c 2 t (ix3 0 j l) : EReal) = _ from blk2 m c t j l, pad_right]).trans ?_
  rw [lanes_right (fun l => aq m c (row (bt t) (rt t r)) (lt t l) * κ) (fun d => ak m c (row (bt t) j) (klane (hr t) d))]
  simp only [lt_right, S]

/-- The head and the lane within it of a lane of the point's block. -/
abbrev hh (t : Fin cfg0.N) (l : Fin 128) : Fin 8 := ⟨2 * pt t + l / 64, by have := (pt t).isLt; omega⟩

theorem hh_left (t : Fin cfg0.N) (l : Fin 128) (h : (l : ℕ) < 64) : hh t l = hl t := Fin.ext (by simp only [hh, hl]; omega)
theorem hh_right (t : Fin cfg0.N) (l : Fin 128) (h : ¬ (l : ℕ) < 64) : hh t l = hr t := Fin.ext (by simp only [hh, hr]; omega)
theorem lt_hh (t : Fin cfg0.N) (l : Fin 128) : lt t l = lane (hh t l) (dK l) := Fin.ext (by simp only [lane, hh, lt]; omega)

theorem oBlk_eq (t : Fin cfg0.N) (r : Fin 256) (l : Fin 128) :
    oBlk (iblk m c 0 t) (iblk m c 1 t) (iblk m c 2 t) (iblk m c 3 t) (iblk m c 4 t) (ix2 r l)
      = gO (aq m c) (ak m c) (av m c) (bt t) (hh t l) (rt t r) (dK l) := by
  rw [oBlk_at, sc_left, sc_right, gO]
  have e1 : ∀ j, (iblk m c 3 t (ix3 0 j l) : EReal) = if (l : ℕ) < 64 then av m c (row (bt t) j) (klane (hl t) (dK l)) else 0 :=
    fun j => (blk3 m c t j l).trans (pad_left _ t _ l)
  have e2 : ∀ j, (iblk m c 4 t (ix3 0 j l) : EReal) = if (l : ℕ) < 64 then 0 else av m c (row (bt t) j) (klane (hr t) (dK l)) :=
    fun j => (blk4 m c t j l).trans (pad_right _ t _ l)
  simp only [e1, e2]
  by_cases h : (l : ℕ) < 64
  · rw [hh_left t l h]; simp [h]
  · rw [hh_right t l h]; simp [h]

/-- The array of the output. -/
abbrev W5 : S4096x512.Idx → EReal := fun y =>
  gO (aq m c) (ak m c) (av m c) (bq (y 0)) (hd (aQ (y 1)) (gQQ (y 1))) (tq (y 0)) (dQ (y 1))

theorem hd_lt (t : Fin cfg0.N) (l : Fin 128) : hd (aQ (lt t l)) (gQQ (lt t l)) = hh t l := Fin.ext (by simp only [hh, lt, hd, aQ, gQQ]; omega)
theorem dQ_lt (t : Fin cfg0.N) (l : Fin 128) : dQ (lt t l) = dK l := Fin.ext (by simp only [dQ, lt, dK]; omega)

theorem W5_at (r : Fin 4096) (l : Fin 512) :
    W5 m c (ix2 r l) = gO (aq m c) (ak m c) (av m c) (bq r) (hd (aQ l) (gQQ l)) (tq r) (dQ l) := rfl

theorem ex_ix2 (x : S256x128.Idx) : ∃ (a : Fin 256) (b : Fin 128), x = ix2 a b :=
  ⟨x 0, x 1, by ext i; fin_cases i <;> rfl⟩

theorem out5 (t : Fin cfg0.N) : out0_5 (iblk m c 0 t) (iblk m c 1 t) (iblk m c 2 t) (iblk m c 3 t) (iblk m c 4 t)
    = oBlk (iblk m c 0 t) (iblk m c 1 t) (iblk m c 2 t) (iblk m c 3 t) (iblk m c 4 t) := by
  frame_out

theorem arr5 : (dats m 0 c).arrAt 5 cfg0.N = W5 m c := by
  refine (dats m 0 c).arrAt_eq_of_covers 5 _ (by decide +kernel) fun t hf y => ?_
  rw [after0_5, out5]
  blk_simp
  obtain ⟨r, l, rfl⟩ := ex_ix2 y
  refine (oBlk_eq m c t r l).trans ?_
  rw [emb5, W5_at, bq_row, tq_row, hd_lt, dQ_lt]

end Cert.Kernel3Ideal.Value

end
-- ==== Proof.FwdRef.lean ====
/-
  The reference's attention, read at an index, and its run with the result in stages.
-/
module

public import proofs.«01_k».proof.Proof.RefAt
public import proofs.«01_k».proof.Proof.Fwd
public import proofs.«01_k».proof.Proof.Gen.Reference3Ideal.Run

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Row Cert.Att
open Cert.ReferenceIdeal.Value (sV mxV eV lV eV_at lV_at)

variable (A0 : FVec Ideal S4096x512 .f32) (A1 A2 : FVec Ideal S4096x128 .f32)

/-- The attention's output from the exponentials and their sums. -/
def oV (e : FVec Ideal S2x2x4x2048x2048 .f32) (l : FVec Ideal S2x2x4x2048 .f32) : FVec Ideal S4096x512 .f32 :=
  shapeCast _ (transpose S2x2048x2x4x64 [0, 4, 1, 3, 2] (Host.dotGeneral dot_S2x2048x2x64_S2x2x4x2048x2048_S2x2x64x4x2048_1_4_3_23_02_01 none (shapeCast _ A2 shapeCasts_S4096x128_S2x2048x2x64) (Host.divf e (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 l)))) transposes_S2x2x64x4x2048_S2x2048x2x4x64_0_4_1_3_2) shapeCasts_S2x2048x2x4x64_S4096x512

theorem oV_at (e : FVec Ideal S2x2x4x2048x2048 .f32) (l : FVec Ideal S2x2x4x2048 .f32) (r : Fin 4096) (i : Fin 512) :
    oV A2 e l (ix2 r i) = ∑ j, A2 (ix2 (row (bq r) j) (klane (hd (aQ i) (gQQ i)) (dQ i))) *
      Ideal.div (e (ix5 (bq r) (aQ i) (gQQ i) (tq r) j)) (l (ix4 (bq r) (aQ i) (gQQ i) (tq r))) := by
  pointwise [oV]
  refine Finset.sum_congr rfl fun d _ => ?_
  congr 3 <;> apply Fin.ext <;> simp only [row, klane] <;> omega

theorem o_at (hQ : ∀ r l, ∃ x : ℝ, A0 (ix2 r l) = (x : EReal)) (hK : ∀ r l, ∃ x : ℝ, A1 (ix2 r l) = (x : EReal))
    (r : Fin 4096) (i : Fin 512) :
    oV A2 (eV (sV A0 A1) (mxV (sV A0 A1))) (lV (eV (sV A0 A1) (mxV (sV A0 A1)))) (ix2 r i)
      = gO (fun r l => A0 (ix2 r l)) (fun r l => A1 (ix2 r l)) (fun r l => A2 (ix2 r l))
          (bq r) (hd (aQ i) (gQQ i)) (tq r) (dQ i) := by
  rw [oV_at]
  simp only [lV_at, eV_at]
  obtain ⟨u, hu, eu, hd', -⟩ := inv_coe (by norm_num) _ (S_coe _ _ hQ hK (bq r) (hd (aQ i) (gQQ i)) (tq r))
  rw [gO, eu, sum_mul _ u hu]
  refine Finset.sum_congr rfl fun j _ => ?_
  rw [hd']
  ac_rfl

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v20) = oV (m ((c.tc : Thread nD τ).loc main_arg2)) (eV (sV (m ((c.tc : Thread nD τ).loc main_arg0)) (m ((c.tc : Thread nD τ).loc main_arg1))) (mxV (sV (m ((c.tc : Thread nD τ).loc main_arg0)) (m ((c.tc : Thread nD τ).loc main_arg1))))) (lV (eV (sV (m ((c.tc : Thread nD τ).loc main_arg0)) (m ((c.tc : Thread nD τ).loc main_arg1))) (mxV (sV (m ((c.tc : Thread nD τ).loc main_arg0)) (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (run m g)

end Cert.Reference3Ideal.Value

end
-- ==== Proof.Further.lean ====
/-
  The weight gradient of the input projection and the attention's output: the programs' results are the same arrays.
-/
module

public import proofs.«01_k».proof.Defs
public import proofs.«01_k».proof.Proof.Algebraic
public import proofs.«01_k».proof.Proof.GradW
public import proofs.«01_k».proof.Proof.FwdRef
public import Idealize.ShloMosaic.Lib.Claim

@[expose] public section

set_option maxRecDepth 16384

noncomputable section

open Idealize.ShloMosaic Idealize.ShloMosaic.TcCoe Idealize.SL.Sem

namespace Cert.Proof

instance facts_products : Cert.Pre_finite_products.Facts := by
  constructor <;> decide

theorem eq_w (m : (ℓ : Loc Cert.Kernel2Ideal.nD Cert.Kernel2Ideal.τ Cert.Kernel2Ideal.sig) → Buf (Elt Ideal) ℓ) (c : Dev Cert.Kernel2Ideal.nD) :
    Cert.Reference2Ideal.Value.wG (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      = (Cert.Kernel2Ideal.Gen.dats m 0 c).arrAt 2 Cert.Kernel2Ideal.cfg0.N := by
  rw [Cert.Kernel2Ideal.Value.arr2]
  funext i
  obtain ⟨a, p, rfl⟩ : ∃ a p, i = ix2 a p := ex_2 i
  exact Cert.Reference2Ideal.Value.wG_at _ _ a p

set_option maxHeartbeats 1600000 in
theorem algebraic_w : Cert.algebraic_Kernel2Ideal_Reference2Ideal := by
  pair_intro
  · run_from Cert.Kernel2Ideal.Value.run_blocks m g
  · run_from Cert.Reference2Ideal.Value.staged m' g'
    exact eq_w m c

section
variable (m : (ℓ : Loc Cert.Kernel3Ideal.nD Cert.Kernel3Ideal.τ Cert.Kernel3Ideal.sig) → Buf (Elt Ideal) ℓ)
variable (hp : Cert.Pre_Kernel3Ideal_finite_products m) (c : Dev Cert.Kernel3Ideal.nD)
include hp

theorem real_q3 (r : Fin 4096) (l : Fin 512) : ∃ x : ℝ, (show EReal from m ((c.tc : Thread Cert.Kernel3Ideal.nD Cert.Kernel3Ideal.τ).loc Cert.Kernel3Ideal.main_arg0) (ix2 r l)) = x := by
  have h := congrFun (hp c).1 (ix2 r l)
  refine real_of_lt _ ?_
  rw [← top_word]
  exact h

theorem real_k3 (r : Fin 4096) (l : Fin 128) : ∃ x : ℝ, (show EReal from m ((c.tc : Thread Cert.Kernel3Ideal.nD Cert.Kernel3Ideal.τ).loc Cert.Kernel3Ideal.main_arg1) (ix2 r l)) = x := by
  have h := congrFun (hp c).2 (ix2 r l)
  refine real_of_lt _ ?_
  rw [← top_word]
  exact h

open Cert.ReferenceIdeal.Value (sV mxV eV lV)

theorem eq_o : Cert.Reference3Ideal.Value.oV (m ((c.tc : Thread Cert.Kernel3Ideal.nD Cert.Kernel3Ideal.τ).loc Cert.Kernel3Ideal.main_arg2)) (eV (sV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) (mxV (sV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))))) (lV (eV (sV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) (mxV (sV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))))))
    = (Cert.Kernel3Ideal.Gen.dats m 0 c).arrAt 5 Cert.Kernel3Ideal.cfg0.N := by
  rw [Cert.Kernel3Ideal.Value.arr5]
  funext i
  obtain ⟨r, l, rfl⟩ : ∃ r l, i = ix2 r l := ex_2 i
  exact Cert.Reference3Ideal.Value.o_at _ _ _ (real_q3 m hp c) (real_k3 m hp c) r l

end

set_option maxHeartbeats 1600000 in
theorem algebraic_o : Cert.algebraic_Kernel3Ideal_Reference3Ideal_pre_finite_products := by
  pair_intro
  · run_from Cert.Kernel3Ideal.Value.run_blocks m g
  · run_from Cert.Reference3Ideal.Value.staged m' g'
    exact eq_o m hpre c

theorem frame_reference_w : Cert.quiescent_Reference2Ideal := by
  intro m g _
  hlo_run
  · exact fun _ => ⟨trivial, trivial⟩
  exact Idealize.ShloMosaic.sem_eq_zero_of_no_sems (sig := Cert.Reference2Ideal.sig) (by decide) _

theorem frame_reference_o : Cert.quiescent_Reference3Ideal := by
  intro m g _
  hlo_run
  · exact fun _ => ⟨trivial, trivial, trivial⟩
  exact Idealize.ShloMosaic.sem_eq_zero_of_no_sems (sig := Cert.Reference3Ideal.sig) (by decide) _

theorem frame_reference_o_pre : Cert.quiescent_Reference3Ideal_pre_finite_products := by
  intro m g _
  hlo_run
  · exact fun _ => ⟨trivial, trivial, trivial⟩
  exact Idealize.ShloMosaic.sem_eq_zero_of_no_sems (sig := Cert.Reference3Ideal.sig) (by decide) _

end Cert.Proof

end
-- ==== Proof.InSpec.lean ====
/-
  The input projection: the normed and modulated input, its product with the weight, and the layout of two heads as four blocks.
-/
module

public import Idealize.ShloMosaic.Lib.Pipeline.ValueKit
public import Idealize.ShloMosaic.Lib.Pointwise
public import Idealize.ShloMosaic.Lib.IdealHost
public import proofs.«01_k».proof.Proof.Spec

@[expose] public section

noncomputable section

open Idealize.ShloMosaic

namespace Cert.InProj

/-- The normed and modulated input, from a row, the gain, the scale and the shift. -/
def hrow (x : Fin 1024 → EReal) (g sc sh : EReal) (d : Fin 1024) : EReal :=
  x d * Ideal.rsqrt (Ideal.div (∑ e, x e * x e) (Ideal.ofBits .f32 0x44800000#32) + Ideal.ofBits .f32 0x358637BD#32) * g
    * (Ideal.ofBits .f32 0x3F800000#32 + sc) + sh

/-- The sequence and the place within it of a row. -/
abbrev rb (r : Fin 4096) : Fin 2 := ⟨r / 2048, by omega⟩
abbrev rt (r : Fin 4096) : Fin 2048 := ⟨r % 2048, by omega⟩

variable (X : Fin 2 → Fin 2048 → Fin 1024 → EReal) (Sh Sc : Fin 2 → Fin 1024 → EReal) (G : Fin 1024 → EReal)
  (W : Fin 1024 → Fin 3456 → EReal)

/-- The normed and modulated input at a row. -/
def gH (r : Fin 4096) (d : Fin 1024) : EReal := hrow (X (rb r) (rt r)) (G d) (Sc (rb r) d) (Sh (rb r) d) d

/-- A column of the projection at a row. -/
def gP (r : Fin 4096) (p : Fin 3456) : EReal := ∑ d, gH X Sh Sc G r d * W d p

/-- The values' columns, two heads of 64 lanes, each laid out at the left and at the right of a block of 128 lanes. -/
def gV (s : Fin 4) (r : Fin 4096) (l : Fin 128) : EReal :=
  if ((s : ℕ) % 2 = 0 ↔ (l : ℕ) < 64) then gP X Sh Sc G W r ⟨640 + 64 * ((s : ℕ) / 2) + (l : ℕ) % 64, by omega⟩ else 0

end Cert.InProj

end
-- ==== Proof.InPay.lean ====
/-
  The input projection's call: its payloads read at an index.
-/
module

public import proofs.«01_k».proof.Proof.InSpec
public import proofs.«01_k».proof.Proof.Host
public import proofs.«01_k».proof.Proof.Gen.Kernel4Ideal.Skeleton

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.InProj

theorem pay8 (x : FVec Ideal S512x1024 .f32) (sh sc : FVec Ideal S1x1x1024 .f32) (g : FVec Ideal S1x1024 .f32) (r : Fin 512) (d : Fin 1024) :
    k0_pay8 (F := Ideal) x sh sc g (ix2 r d) = hrow (fun e => x (ix2 r e)) (g (ix2 0 d)) (sc (ix3 0 0 d)) (sh (ix3 0 0 d)) d := by
  pointwise [k0_pay8, hrow]

theorem pay9 (x : FVec Ideal S512x1024 .f32) (sh sc : FVec Ideal S1x1x1024 .f32) (g : FVec Ideal S1x1024 .f32)
    (w : FVec Ideal S512x1024 .bf16) (r p : Fin 512) :
    k0_pay9 (F := Ideal) x sh sc g w (ix2 r p) = ∑ d, k0_pay8 (F := Ideal) x sh sc g (ix2 r d) * w (ix2 p d) := by
  pointwise [k0_pay9]

theorem pay10 (x : FVec Ideal S512x1024 .f32) (sh sc : FVec Ideal S1x1x1024 .f32) (g : FVec Ideal S1x1024 .f32)
    (w : FVec Ideal S128x1024 .bf16) (r : Fin 512) (p : Fin 128) :
    k0_pay10 (F := Ideal) x sh sc g w (ix2 r p) = ∑ d, k0_pay8 (F := Ideal) x sh sc g (ix2 r d) * w (ix2 p d) := by
  pointwise [k0_pay10]

variable (h : FVec Ideal S512x1024 .bf16)

theorem pay11 (w : FVec Ideal S128x1024 .bf16) (r : Fin 512) (p : Fin 128) :
    k0_pay11 (F := Ideal) h w (ix2 r p) = ∑ d, h (ix2 r d) * w (ix2 p d) := by
  pointwise [k0_pay11]

theorem pay12 (w : FVec Ideal S512x1024 .bf16) (r : Fin 512) (p : Fin 512) :
    k0_pay12 (F := Ideal) h w (ix2 r p) = ∑ d, h (ix2 r d) * w (ix2 p d) := by
  pointwise [k0_pay12]

theorem pay13 (w : FVec Ideal S1664x1024 .bf16) (r : Fin 512) (p : Fin 1664) :
    k0_pay13 (F := Ideal) h w (ix2 r p) = ∑ d, h (ix2 r d) * w (ix2 p d) := by
  pointwise [k0_pay13]

theorem pay14 (w : FVec Ideal S512x1024 .bf16) (r : Fin 512) (p : Fin 512) :
    k0_pay14 (F := Ideal) h w (ix2 r p) = ∑ d, h (ix2 r d) * w (ix2 p d) := by
  pointwise [k0_pay14]

/-- Block `s` of the padded values. -/
def vAt (v : FVec Ideal S512x128 .f32) (s : Fin 4) (r : Fin 512) (l : Fin 128) : EReal :=
  if ((s : ℕ) % 2 = 0 ↔ (l : ℕ) < 64) then v (ix2 r ⟨64 * ((s : ℕ) / 2) + (l : ℕ) % 64, by omega⟩) else 0

theorem iff_true_of {p : Prop} {α : Type} (a b : α) [Decidable (True ↔ p)] [Decidable p] : (if (True ↔ p) then a else b) = if p then a else b :=
  if_congr (by simp) rfl rfl

theorem iff_false_of {p : Prop} {α : Type} (a b : α) [Decidable (False ↔ p)] [Decidable p] : (if (False ↔ p) then a else b) = if p then b else a := by
  by_cases h : p <;> simp [h]

theorem pay4 (v : FVec Ideal S512x128 .f32) (r : Fin 512) (l : Fin 128) :
    k0_pay4 (F := Ideal) v k0_pay27 (ix3 0 r l) = vAt v 0 r l := by
  pointwise [k0_pay4, k0_pay2, k0_pay27, vAt]
  rw [Cert.KernelIdeal.Value.mask_left, iff_true_of]
  by_cases h : (l : ℕ) < 64
  · rw [if_pos h, if_pos h]
    exact congrArg v (congrArg _ (Fin.ext (Nat.mod_eq_of_lt h).symm))
  · rw [if_neg h, if_neg h]

theorem pay5 (v : FVec Ideal S512x128 .f32) (r : Fin 512) (l : Fin 128) :
    k0_pay5 (F := Ideal) v k0_pay27 (ix3 0 r l) = vAt v 1 r l := by
  pointwise [k0_pay5, k0_pay2, k0_pay27, vAt]
  refine (Cert.KernelIdeal.Value.mask_left ⟨((l : ℕ) + 128 - 64) % 128, by omega⟩ _ _).trans ?_
  rw [iff_false_of]
  by_cases h : (l : ℕ) < 64
  · rw [if_pos h, if_neg (by show ¬((l : ℕ) + 128 - 64) % 128 < 64; omega)]
  · rw [if_neg h, if_pos (by show ((l : ℕ) + 128 - 64) % 128 < 64; omega)]
    exact congrArg v (congrArg _ (Fin.ext (by show ((l : ℕ) + 128 - 64) % 128 = l % 64; omega)))

theorem pay6 (v : FVec Ideal S512x128 .f32) (r : Fin 512) (l : Fin 128) :
    k0_pay6 (F := Ideal) v k0_pay27 (ix3 0 r l) = vAt v 2 r l := by
  pointwise [k0_pay6, k0_pay3, k0_pay27, vAt]
  refine (Cert.KernelIdeal.Value.mask_left ⟨((l : ℕ) + 128 - 64) % 128, by omega⟩ _ _).trans ?_
  rw [iff_true_of]
  by_cases h : (l : ℕ) < 64
  · rw [if_pos h, if_neg (by show ¬((l : ℕ) + 128 - 64) % 128 < 64; omega)]
    exact congrArg v (congrArg _ (Fin.ext (by show ((l : ℕ) + 128 - 64) % 128 = 64 + l % 64; omega)))
  · rw [if_neg h, if_pos (by show ((l : ℕ) + 128 - 64) % 128 < 64; omega)]

theorem pay7 (v : FVec Ideal S512x128 .f32) (r : Fin 512) (l : Fin 128) :
    k0_pay7 (F := Ideal) v k0_pay27 (ix3 0 r l) = vAt v 3 r l := by
  pointwise [k0_pay7, k0_pay3, k0_pay27, vAt]
  rw [Cert.KernelIdeal.Value.mask_left, iff_false_of]
  by_cases h : (l : ℕ) < 64
  · rw [if_pos h, if_pos h]
  · rw [if_neg h, if_neg h]
    exact congrArg v (congrArg _ (Fin.ext (by show (l : ℕ) = 64 + l % 64; omega)))

end Cert.Kernel4Ideal.Value

end
-- ==== Proof.InHost.lean ====
/-
  The input projection's call: the blocks its grid points read, in terms of the arguments.
-/
module

public import proofs.«01_k».proof.Proof.InSpec
public import proofs.«01_k».proof.Proof.Gen.Kernel4Ideal.Frame
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.InProj

variable (m : (ℓ : Loc nD τ sig) → Buf (Elt Ideal) ℓ) (c : Dev nD)

theorem idx : ∀ t : Fin cfg0.N,
    win0_0.index t = ![(t : ℕ), 0] ∧ win0_1.index t = ![(t : ℕ) / 4, 0, 0] ∧ win0_2.index t = ![(t : ℕ) / 4, 0, 0] ∧
    win0_3.index t = ![0, 0] ∧ win0_4.index t = ![0, 0] ∧ win0_10.index t = ![(t : ℕ), 0] ∧ win0_13.index t = ![0, (t : ℕ), 0] ∧
    win0_14.index t = ![(t : ℕ), 0] ∧ win0_15.index t = ![(t : ℕ), 0] ∧ win0_16.index t = ![(t : ℕ), 0] ∧
    win0_17.index t = ![(t : ℕ), 0] ∧ win0_18.index t = ![(t : ℕ), 0] :=
  (by decide +kernel : ∀ t : Fin grid0.N, _)

theorem lt8 (t : Fin cfg0.N) : (t : ℕ) < 8 := lt_of_lt_of_eq t.isLt (show cfg0.N = 8 from N_0)

/-- Row `r` of the point's block. -/
abbrev rw8 (t : Fin cfg0.N) (r : Fin 512) : Fin 4096 := ⟨512 * t + r, by have := lt8 t; omega⟩
/-- The sequence the point's block lies in. -/
abbrev sq (t : Fin cfg0.N) : Fin 2 := ⟨t / 4, by have := lt8 t; omega⟩

theorem emb0 (t : Fin cfg0.N) (r : Fin 512) (d : Fin 1024) : (win0_0.blk t).view.emb (ix2 r d) = ix2 (rw8 t r) d := by
  blk_ext [idx t]

theorem emb1 (t : Fin cfg0.N) (d : Fin 1024) : (win0_1.blk t).view.emb (ix3 0 0 d) = ix3 (sq t) 0 d := by
  blk_ext [idx t]

theorem emb2 (t : Fin cfg0.N) (d : Fin 1024) : (win0_2.blk t).view.emb (ix3 0 0 d) = ix3 (sq t) 0 d := by
  blk_ext [idx t]

theorem emb3 (t : Fin cfg0.N) (d : Fin 1024) : (win0_3.blk t).view.emb (ix2 0 d) = ix2 0 d := by
  blk_ext [idx t]

theorem emb4 (t : Fin cfg0.N) (p : Fin 3456) (d : Fin 1024) : (win0_4.blk t).view.emb (ix2 p d) = ix2 p d := by
  blk_ext [idx t]

theorem emb10 (t : Fin cfg0.N) (r : Fin 512) (d : Fin 1024) : (win0_10.blk t).view.emb (ix2 r d) = ix2 (rw8 t r) d := by
  blk_ext [idx t]

theorem emb13 (t : Fin cfg0.N) (s : Fin 4) (r : Fin 512) (l : Fin 128) : (win0_13.blk t).view.emb (ix3 s r l) = ix3 s (rw8 t r) l := by
  blk_ext [idx t]

theorem emb14 (t : Fin cfg0.N) (r : Fin 512) (p : Fin 512) : (win0_14.blk t).view.emb (ix2 r p) = ix2 (rw8 t r) p := by
  blk_ext [idx t]

theorem emb15 (t : Fin cfg0.N) (r : Fin 512) (p : Fin 128) : (win0_15.blk t).view.emb (ix2 r p) = ix2 (rw8 t r) p := by
  blk_ext [idx t]

theorem emb16 (t : Fin cfg0.N) (r : Fin 512) (p : Fin 512) : (win0_16.blk t).view.emb (ix2 r p) = ix2 (rw8 t r) p := by
  blk_ext [idx t]

theorem emb17 (t : Fin cfg0.N) (r : Fin 512) (p : Fin 1664) : (win0_17.blk t).view.emb (ix2 r p) = ix2 (rw8 t r) p := by
  blk_ext [idx t]

theorem emb18 (t : Fin cfg0.N) (r : Fin 512) (p : Fin 512) : (win0_18.blk t).view.emb (ix2 r p) = ix2 (rw8 t r) p := by
  blk_ext [idx t]

set_option maxHeartbeats 6400000 in
theorem V_x (r : Fin 4096) (d : Fin 1024) :
    (show EReal from V m c main_v61 (ix2 r d)) = m ((c.tc : Thread nD τ).loc main_arg0) (ix3 (rb r) (rt r) d) := by
  unfold V
  simp only [List.flatten_cons, List.flatten_nil, List.append_nil]
  after_reads_at

set_option maxHeartbeats 6400000 in
theorem V_sh (b : Fin 2) (d : Fin 1024) :
    (show EReal from V m c main_v62 (ix3 b 0 d)) = m ((c.tc : Thread nD τ).loc main_arg1) (ix2 b d) := by
  unfold V
  simp only [List.flatten_cons, List.flatten_nil, List.append_nil]
  after_reads_at

set_option maxHeartbeats 6400000 in
theorem V_sc (b : Fin 2) (d : Fin 1024) :
    (show EReal from V m c main_v63 (ix3 b 0 d)) = m ((c.tc : Thread nD τ).loc main_arg2) (ix2 b d) := by
  unfold V
  simp only [List.flatten_cons, List.flatten_nil, List.append_nil]
  after_reads_at

set_option maxHeartbeats 6400000 in
theorem V_w (p : Fin 3456) (d : Fin 1024) :
    (show EReal from V m c main_v65 (ix2 p d)) = m ((c.tc : Thread nD τ).loc main_arg4) (ix2 d p) := by
  unfold V
  simp only [List.flatten_cons, List.flatten_nil, List.append_nil]
  after_reads_at

theorem blk0 (t : Fin cfg0.N) (r : Fin 512) (d : Fin 1024) :
    (show EReal from iblk m c 0 t (ix2 r d)) = m ((c.tc : Thread nD τ).loc main_arg0) (ix3 (rb (rw8 t r)) (rt (rw8 t r)) d) := by
  blk_simp [iblk]
  rw [emb0]
  exact V_x m c _ d

theorem blk1 (t : Fin cfg0.N) (d : Fin 1024) :
    (show EReal from iblk m c 1 t (ix3 0 0 d)) = m ((c.tc : Thread nD τ).loc main_arg1) (ix2 (sq t) d) := by
  blk_simp [iblk]
  rw [emb1]
  exact V_sh m c _ d

theorem blk2 (t : Fin cfg0.N) (d : Fin 1024) :
    (show EReal from iblk m c 2 t (ix3 0 0 d)) = m ((c.tc : Thread nD τ).loc main_arg2) (ix2 (sq t) d) := by
  blk_simp [iblk]
  rw [emb2]
  exact V_sc m c _ d

theorem blk3 (t : Fin cfg0.N) (d : Fin 1024) :
    (show EReal from iblk m c 3 t (ix2 0 d)) = m ((c.tc : Thread nD τ).loc main_arg3) (ix2 0 d) := by
  blk_simp [iblk]
  rw [emb3]
  exact congrFun (V_main_arg3 m c) _

theorem blk4 (t : Fin cfg0.N) (p : Fin 3456) (d : Fin 1024) :
    (show EReal from iblk m c 4 t (ix2 p d)) = m ((c.tc : Thread nD τ).loc main_arg4) (ix2 d p) := by
  blk_simp [iblk]
  rw [emb4]
  exact V_w m c p d

end Cert.Kernel4Ideal.Value

end
-- ==== Proof.InProj.lean ====
/-
  The input projection's call: the arrays it writes, in terms of the arguments.
-/
module

public import proofs.«01_k».proof.Proof.InPay
public import proofs.«01_k».proof.Proof.InHost
public import proofs.«01_k».proof.Proof.Gen.Kernel4Ideal.Value

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.InProj

variable (m : (ℓ : Loc nD τ sig) → Buf (Elt Ideal) ℓ) (c : Dev nD)

/-- The arguments by their coordinates. -/
abbrev aX (b : Fin 2) (t : Fin 2048) (d : Fin 1024) : EReal := m ((c.tc : Thread nD τ).loc main_arg0) (ix3 b t d)
abbrev aSh (b : Fin 2) (d : Fin 1024) : EReal := m ((c.tc : Thread nD τ).loc main_arg1) (ix2 b d)
abbrev aSc (b : Fin 2) (d : Fin 1024) : EReal := m ((c.tc : Thread nD τ).loc main_arg2) (ix2 b d)
abbrev aG (d : Fin 1024) : EReal := m ((c.tc : Thread nD τ).loc main_arg3) (ix2 0 d)
abbrev aW (d : Fin 1024) (p : Fin 3456) : EReal := m ((c.tc : Thread nD τ).loc main_arg4) (ix2 d p)

abbrev kH : Fin 4096 → Fin 1024 → EReal := gH (aX m c) (aSh m c) (aSc m c) (aG m c)
abbrev kP : Fin 4096 → Fin 3456 → EReal := gP (aX m c) (aSh m c) (aSc m c) (aG m c) (aW m c)

/-- The point's normed and modulated rows. -/
def hB (t : Fin cfg0.N) : FVec Ideal S512x1024 .bf16 :=
  k0_pay8 (F := Ideal) (iblk m c 0 t) (iblk m c 1 t) (iblk m c 2 t) (iblk m c 3 t)

theorem hB_at (t : Fin cfg0.N) (r : Fin 512) (d : Fin 1024) : hB m c t (ix2 r d) = kH m c (rw8 t r) d := by
  refine (pay8 _ _ _ _ r d).trans ?_
  have hs : sq t = rb (rw8 t r) := Fin.ext (by show (t : ℕ) / 4 = (512 * t + r) / 2048; omega)
  have e0 : (fun e => (show EReal from iblk m c 0 t (ix2 r e))) = aX m c (rb (rw8 t r)) (rt (rw8 t r)) :=
    funext fun e => blk0 m c t r e
  have e1 := blk1 m c t d
  have e2 := blk2 m c t d
  rw [hs] at e1 e2
  exact congrFun (congr (congr (congr (congrArg hrow e0) (blk3 m c t d)) e2) e1) d

/-- A column of the projection, from the point's rows and rows of the transposed weight. -/
theorem col_at (t : Fin cfg0.N) (r : Fin 512) (f : Fin 1024 → EReal) (p : Fin 3456)
    (hf : ∀ d, f d = (show EReal from iblk m c 4 t (ix2 p d))) :
    (∑ d, hB m c t (ix2 r d) * f d) = kP m c (rw8 t r) p :=
  Finset.sum_congr rfl fun d _ => congrArg₂ (· * ·) (hB_at m c t r d) ((hf d).trans (blk4 m c t p d))

/-- Rows of the transposed weight from an offset on. -/
theorem wrows {n : ℕ} (off : ℕ) (h) (w : FVec Ideal S3456x1024 .bf16) (p : Fin n) (d : Fin 1024) (hp : off + p < 3456) :
    (show EReal from View.ld (Val := Elt Ideal) (e' := .bf16) w (Rect.unit (s := S3456x1024) ![off, 0] ![n, 1024] h) (ix2 p d)) = w (ix2 ⟨off + p, hp⟩ d) := by
  refine congrArg w (funext fun a => Fin.ext ?_)
  match a with
  | ⟨0, _⟩ => show off + 1 * (p : ℕ) = off + p; omega
  | ⟨1, _⟩ => show 0 + 1 * (d : ℕ) = d; omega

section
variable (t : Fin cfg0.N)

theorem out10 : out0_10 (iblk m c 0 t) (iblk m c 1 t) (iblk m c 2 t) (iblk m c 3 t) (iblk m c 4 t) (iblk m c 5 t) (iblk m c 6 t) (iblk m c 7 t) (iblk m c 8 t) (iblk m c 9 t)
    = hB m c t := by
  unfold hB
  frame_out

theorem out14 : out0_14 (iblk m c 0 t) (iblk m c 1 t) (iblk m c 2 t) (iblk m c 3 t) (iblk m c 4 t) (iblk m c 5 t) (iblk m c 6 t) (iblk m c 7 t) (iblk m c 8 t) (iblk m c 9 t)
    = k0_pay9 (F := Ideal) (iblk m c 0 t) (iblk m c 1 t) (iblk m c 2 t) (iblk m c 3 t) (View.ld (iblk m c 4 t) r0_3) := by
  frame_out
  unfold k0_pay35
  simp (disch := decide) only [View.ld_unit_lit']
  rfl

theorem out15 : out0_15 (iblk m c 0 t) (iblk m c 1 t) (iblk m c 2 t) (iblk m c 3 t) (iblk m c 4 t) (iblk m c 5 t) (iblk m c 6 t) (iblk m c 7 t) (iblk m c 8 t) (iblk m c 9 t)
    = k0_pay10 (F := Ideal) (iblk m c 0 t) (iblk m c 1 t) (iblk m c 2 t) (iblk m c 3 t) (View.ld (iblk m c 4 t) r0_4) := by
  frame_out
  unfold k0_pay36
  simp (disch := decide) only [View.ld_unit_lit']
  rfl

theorem out16 : out0_16 (iblk m c 0 t) (iblk m c 1 t) (iblk m c 2 t) (iblk m c 3 t) (iblk m c 4 t) (iblk m c 5 t) (iblk m c 6 t) (iblk m c 7 t) (iblk m c 8 t) (iblk m c 9 t)
    = k0_pay12 (F := Ideal) (hB m c t) (View.ld (iblk m c 4 t) r0_6) := by
  unfold hB
  frame_out
  unfold k0_pay34
  simp (disch := decide) only [View.ld_unit_lit']
  rfl

theorem out17 : out0_17 (iblk m c 0 t) (iblk m c 1 t) (iblk m c 2 t) (iblk m c 3 t) (iblk m c 4 t) (iblk m c 5 t) (iblk m c 6 t) (iblk m c 7 t) (iblk m c 8 t) (iblk m c 9 t)
    = k0_pay13 (F := Ideal) (hB m c t) (View.ld (iblk m c 4 t) r0_8) := by
  unfold hB
  frame_out
  unfold k0_pay34
  simp (disch := decide) only [View.ld_unit_lit']
  rfl

theorem out18 : out0_18 (iblk m c 0 t) (iblk m c 1 t) (iblk m c 2 t) (iblk m c 3 t) (iblk m c 4 t) (iblk m c 5 t) (iblk m c 6 t) (iblk m c 7 t) (iblk m c 8 t) (iblk m c 9 t)
    = k0_pay14 (F := Ideal) (hB m c t) (View.ld (iblk m c 4 t) r0_10) := by
  unfold hB
  frame_out
  unfold k0_pay34
  simp (disch := decide) only [View.ld_unit_lit']
  rfl

/-- The four padded blocks of the point's values, as one block. -/
theorem canon13 (v : FVec Ideal S512x128 .f32) (s : Fin 4) (r : Fin 512) (l : Fin 128) :
    View.canon (Val := Elt Ideal) (s := S4x512x128) (e := .bf16) [⟨r0_18, k0_pay7 (F := Ideal) v k0_pay27⟩, ⟨r0_17, k0_pay6 (F := Ideal) v k0_pay27⟩,
      ⟨r0_16, k0_pay5 (F := Ideal) v k0_pay27⟩, ⟨r0_15, k0_pay4 (F := Ideal) v k0_pay27⟩] (ix3 s r l) = vAt v s r l := by
  have ex : ∀ x : S1x512x128.Idx, ∃ (a : Fin 512) (b : Fin 128), x = ix3 0 a b := fun x =>
    ⟨x 1, x 2, by
      funext i
      match i with
      | ⟨0, _⟩ => exact Subsingleton.elim (α := Fin 1) _ _
      | ⟨1, _⟩ => rfl
      | ⟨2, _⟩ => rfl⟩
  refine (View.canon_apply_of_pieces (Val := Elt Ideal) (e := .bf16) (fun y : S4x512x128.Idx => vAt v (y 0) (y 1) (y 2)) _ ?_ (ix3 s r l) (cover0_13 _ _ _ _ _)).trans rfl
  intro pc hpc
  rcases List.mem_cons.mp hpc with rfl | hpc
  · intro x
    obtain ⟨a, b, rfl⟩ := ex x
    refine (pay7 v a b).trans ?_
    exact congr (congr (congrArg (vAt v) (Fin.ext rfl)) (Fin.ext (by show (a : ℕ) = 0 + 1 * a; omega))) (Fin.ext (by show (b : ℕ) = 0 + 1 * b; omega))
  rcases List.mem_cons.mp hpc with rfl | hpc
  · intro x
    obtain ⟨a, b, rfl⟩ := ex x
    refine (pay6 v a b).trans ?_
    exact congr (congr (congrArg (vAt v) (Fin.ext rfl)) (Fin.ext (by show (a : ℕ) = 0 + 1 * a; omega))) (Fin.ext (by show (b : ℕ) = 0 + 1 * b; omega))
  rcases List.mem_cons.mp hpc with rfl | hpc
  · intro x
    obtain ⟨a, b, rfl⟩ := ex x
    refine (pay5 v a b).trans ?_
    exact congr (congr (congrArg (vAt v) (Fin.ext rfl)) (Fin.ext (by show (a : ℕ) = 0 + 1 * a; omega))) (Fin.ext (by show (b : ℕ) = 0 + 1 * b; omega))
  rcases List.mem_cons.mp hpc with rfl | hpc
  · intro x
    obtain ⟨a, b, rfl⟩ := ex x
    refine (pay4 v a b).trans ?_
    exact congr (congr (congrArg (vAt v) (Fin.ext rfl)) (Fin.ext (by show (a : ℕ) = 0 + 1 * a; omega))) (Fin.ext (by show (b : ℕ) = 0 + 1 * b; omega))
  nomatch hpc

theorem out13 : out0_13 (iblk m c 0 t) (iblk m c 1 t) (iblk m c 2 t) (iblk m c 3 t) (iblk m c 4 t) (iblk m c 5 t) (iblk m c 6 t) (iblk m c 7 t) (iblk m c 8 t) (iblk m c 9 t)
    = View.canon [⟨r0_18, k0_pay7 (F := Ideal) (k0_pay11 (F := Ideal) (hB m c t) (View.ld (iblk m c 4 t) r0_5)) k0_pay27⟩,
      ⟨r0_17, k0_pay6 (F := Ideal) (k0_pay11 (F := Ideal) (hB m c t) (View.ld (iblk m c 4 t) r0_5)) k0_pay27⟩,
      ⟨r0_16, k0_pay5 (F := Ideal) (k0_pay11 (F := Ideal) (hB m c t) (View.ld (iblk m c 4 t) r0_5)) k0_pay27⟩,
      ⟨r0_15, k0_pay4 (F := Ideal) (k0_pay11 (F := Ideal) (hB m c t) (View.ld (iblk m c 4 t) r0_5)) k0_pay27⟩] := by
  unfold hB
  frame_out
  unfold k0_pay37 k0_pay43 k0_pay34
  simp (disch := decide) only [View.ld_unit_lit']
  rfl

end

theorem ex_h (x : S512x1024.Idx) : ∃ (a : Fin 512) (b : Fin 1024), x = ix2 a b := ⟨x 0, x 1, by ext i; fin_cases i <;> rfl⟩
theorem ex_q (x : S512x512.Idx) : ∃ (a : Fin 512) (b : Fin 512), x = ix2 a b := ⟨x 0, x 1, by ext i; fin_cases i <;> rfl⟩
theorem ex_k (x : S512x128.Idx) : ∃ (a : Fin 512) (b : Fin 128), x = ix2 a b := ⟨x 0, x 1, by ext i; fin_cases i <;> rfl⟩
theorem ex_r (x : S512x1664.Idx) : ∃ (a : Fin 512) (b : Fin 1664), x = ix2 a b := ⟨x 0, x 1, by ext i; fin_cases i <;> rfl⟩
theorem ex_v (x : S4x512x128.Idx) : ∃ (s : Fin 4) (a : Fin 512) (b : Fin 128), x = ix3 s a b := ⟨x 0, x 1, x 2, by ext i; fin_cases i <;> rfl⟩

/-- The results by their coordinates. -/
def rH : S4096x1024.Idx → EReal := fun y => kH m c (y 0) (y 1)
def rQ : S4096x512.Idx → EReal := fun y => kP m c (y 0) ⟨y 1, by have : (y 1 : ℕ) < 512 := (y 1).isLt; omega⟩
def rK : S4096x128.Idx → EReal := fun y => kP m c (y 0) ⟨512 + y 1, by have : (y 1 : ℕ) < 128 := (y 1).isLt; omega⟩
def rGa : S4096x512.Idx → EReal := fun y => kP m c (y 0) ⟨768 + y 1, by have : (y 1 : ℕ) < 512 := (y 1).isLt; omega⟩
def rRi : S4096x1664.Idx → EReal := fun y => kP m c (y 0) ⟨1280 + y 1, by have : (y 1 : ℕ) < 1664 := (y 1).isLt; omega⟩
def rGr : S4096x512.Idx → EReal := fun y => kP m c (y 0) ⟨2944 + y 1, by have : (y 1 : ℕ) < 512 := (y 1).isLt; omega⟩
def rV : S4x4096x128.Idx → EReal := fun y => gV (aX m c) (aSh m c) (aSc m c) (aG m c) (aW m c) (y 0) (y 1) (y 2)

theorem arr10 : (dats m 0 c).arrAt 10 cfg0.N = rH m c := by
  refine (dats m 0 c).arrAt_eq_of_covers 10 _ (by decide +kernel) fun t hf y => ?_
  rw [after0_10, out10]
  blk_simp
  obtain ⟨a, b, rfl⟩ := ex_h y
  rw [emb10]
  exact hB_at m c t a b

theorem arr14 : (dats m 0 c).arrAt 14 cfg0.N = rQ m c := by
  refine (dats m 0 c).arrAt_eq_of_covers 14 _ (by decide +kernel) fun t hf y => ?_
  rw [after0_14, out14]
  blk_simp
  obtain ⟨a, b, rfl⟩ := ex_q y
  rw [emb14]
  refine (pay9 _ _ _ _ _ a b).trans (col_at m c t a _ _ fun d => ?_)
  refine (wrows 0 _ _ b d (by omega)).trans (congrArg (iblk m c 4 t) ?_)
  exact congrArg (ix2 · d) (Fin.ext (Nat.zero_add _))

theorem arr15 : (dats m 0 c).arrAt 15 cfg0.N = rK m c := by
  refine (dats m 0 c).arrAt_eq_of_covers 15 _ (by decide +kernel) fun t hf y => ?_
  rw [after0_15, out15]
  blk_simp
  obtain ⟨a, b, rfl⟩ := ex_k y
  rw [emb15]
  exact (pay10 _ _ _ _ _ a b).trans (col_at m c t a _ _ fun d => wrows 512 _ _ b d (by omega))

theorem arr16 : (dats m 0 c).arrAt 16 cfg0.N = rGa m c := by
  refine (dats m 0 c).arrAt_eq_of_covers 16 _ (by decide +kernel) fun t hf y => ?_
  rw [after0_16, out16]
  blk_simp
  obtain ⟨a, b, rfl⟩ := ex_q y
  rw [emb16]
  exact (pay12 _ _ a b).trans (col_at m c t a _ _ fun d => wrows 768 _ _ b d (by omega))

theorem arr17 : (dats m 0 c).arrAt 17 cfg0.N = rRi m c := by
  refine (dats m 0 c).arrAt_eq_of_covers 17 _ (by decide +kernel) fun t hf y => ?_
  rw [after0_17, out17]
  blk_simp
  obtain ⟨a, b, rfl⟩ := ex_r y
  rw [emb17]
  exact (pay13 _ _ a b).trans (col_at m c t a _ _ fun d => wrows 1280 _ _ b d (by omega))

theorem arr18 : (dats m 0 c).arrAt 18 cfg0.N = rGr m c := by
  refine (dats m 0 c).arrAt_eq_of_covers 18 _ (by decide +kernel) fun t hf y => ?_
  rw [after0_18, out18]
  blk_simp
  obtain ⟨a, b, rfl⟩ := ex_q y
  rw [emb18]
  exact (pay14 _ _ a b).trans (col_at m c t a _ _ fun d => wrows 2944 _ _ b d (by omega))

theorem arr13 : (dats m 0 c).arrAt 13 cfg0.N = rV m c := by
  refine (dats m 0 c).arrAt_eq_of_covers 13 _ (by decide +kernel) fun t hf y => ?_
  rw [after0_13, out13]
  blk_simp
  obtain ⟨s, a, b, rfl⟩ := ex_v y
  rw [emb13]
  refine (canon13 _ s a b).trans ?_
  refine if_congr Iff.rfl ?_ rfl
  refine (pay11 _ _ a _).trans (col_at m c t a _ _ fun d => (wrows 640 _ _ _ d (by show 640 + (64 * ((s : ℕ) / 2) + (b : ℕ) % 64) < 3456; omega)).trans (congrArg (iblk m c 4 t) ?_))
  exact congrArg (ix2 · d) (Fin.ext (by show 640 + (64 * ((s : ℕ) / 2) + (b : ℕ) % 64) = 640 + 64 * ((s : ℕ) / 2) + (b : ℕ) % 64; omega))

end Cert.Kernel4Ideal.Value

end
-- ==== Proof.InRef.lean ====
/-
  The input projection's reference: its values in turn, each read at an index.
-/
module

public import proofs.«01_k».proof.Proof.InSpec
public import proofs.«01_k».proof.Proof.Gen.Reference4Ideal.Run
public import proofs.«01_k».proof.Proof.Host

@[expose] public section

set_option maxRecDepth 16384

noncomputable section

open Idealize.ShloMosaic Idealize.ShloMosaic.TcCoe Idealize.SL.Sem

namespace Cert.Reference4Ideal.Value

open Cert.Reference4Ideal Cert.Reference4Ideal.Gen Cert.InProj

variable (x : FVec Ideal S2x2048x1024 .f32) (sh sc : FVec Ideal S2x1024 .f32) (g : FVec Ideal S1x1024 .f32) (w : FVec Ideal S1024x3456 .f32)

/-- The normed and modulated input. -/
def hV : FVec Ideal S2x2048x1024 .f32 :=
  addf (mulf (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast S1024 g shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 sc)))) (broadcastInDim S2x2048x1024 ![0, 1, 2] bcast_S2x1x1024_S2x2048x1024_0_1_2 (broadcastInDim S2x1x1024 ![0, 2] bcast_S2x1024_S2x1x1024_0_2 sh))

/-- The projection. -/
def pV (h : FVec Ideal S2x2048x1024 .f32) : FVec Ideal S2x2048x3456 .f32 :=
  Host.dotGeneral dot_S2x2048x1024_S1024x3456_S2x2048x3456_2_0_01_1_n_n none h w

variable (p : FVec Ideal S2x2048x3456 .f32)

def hbV (h : FVec Ideal S2x2048x1024 .f32) : FVec Ideal S4096x1024 .bf16 := truncf .bf16 (shapeCast S4096x1024 h shapeCasts_S2x2048x1024_S4096x1024) bitsLt_bf16_f32
def qV : FVec Ideal S4096x512 .f32 := shapeCast S4096x512 (extractStridedSlice S2x2048x512 ![0, 0, 0] p slices_S2x2048x3456_S2x2048x512_0_0_0) shapeCasts_S2x2048x512_S4096x512
def kV : FVec Ideal S4096x128 .f32 := shapeCast S4096x128 (extractStridedSlice S2x2048x128 ![0, 0, 512] p slices_S2x2048x3456_S2x2048x128_0_0_512) shapeCasts_S2x2048x128_S4096x128
def gaV : FVec Ideal S4096x512 .f32 := shapeCast S4096x512 (extractStridedSlice S2x2048x512 ![0, 0, 768] p slices_S2x2048x3456_S2x2048x512_0_0_768) shapeCasts_S2x2048x512_S4096x512
def riV : FVec Ideal S4096x1664 .f32 := shapeCast S4096x1664 (extractStridedSlice S2x2048x1664 ![0, 0, 1280] p slices_S2x2048x3456_S2x2048x1664_0_0_1280) shapeCasts_S2x2048x1664_S4096x1664
def grV : FVec Ideal S4096x512 .f32 := shapeCast S4096x512 (extractStridedSlice S2x2048x512 ![0, 0, 2944] p slices_S2x2048x3456_S2x2048x512_0_0_2944) shapeCasts_S2x2048x512_S4096x512

/-- The values' columns, by heads. -/
def vV : FVec Ideal S4096x2x64 .f32 := shapeCast S4096x2x64 (shapeCast S4096x128 (extractStridedSlice S2x2048x128 ![0, 0, 640] p slices_S2x2048x3456_S2x2048x128_0_0_640) shapeCasts_S2x2048x128_S4096x128) shapeCasts_S4096x128_S4096x2x64

variable (v : FVec Ideal S4096x2x64 .f32)

/-- Each head at the left, and at the right, of 128 lanes. -/
def lV : FVec Ideal S4096x2x128 .f32 := pad S4096x2x128 ![0, 0, 0] ![0, 0, 64] ![0, 0, 0] v (sitofp .f32 (constantI S_ 32 0#32)) pads_S4096x2x64_S4096x2x128_000_000_0640 h_S_
def rV : FVec Ideal S4096x2x128 .f32 := pad S4096x2x128 ![0, 0, 64] ![0, 0, 0] ![0, 0, 0] v (sitofp .f32 (constantI S_ 32 0#32)) pads_S4096x2x64_S4096x2x128_000_000_6400 h_S_

/-- One head of a layout as one block. -/
def b0V (u : FVec Ideal S4096x2x128 .f32) : FVec Ideal S1x4096x128 .f32 :=
  broadcastInDim S1x4096x128 ![1, 2] bcast_S4096x128_S1x4096x128_1_2 (shapeCast S4096x128 (extractStridedSlice S4096x1x128 ![0, 0, 0] u slices_S4096x2x128_S4096x1x128_0_0_0) shapeCasts_S4096x1x128_S4096x128)
def b1V (u : FVec Ideal S4096x2x128 .f32) : FVec Ideal S1x4096x128 .f32 :=
  broadcastInDim S1x4096x128 ![1, 2] bcast_S4096x128_S1x4096x128_1_2 (shapeCast S4096x128 (extractStridedSlice S4096x1x128 ![0, 1, 0] u slices_S4096x2x128_S4096x1x128_0_1_0) shapeCasts_S4096x1x128_S4096x128)

/-- The four blocks. -/
def vpV : FVec Ideal S4x4096x128 .bf16 := truncf .bf16 (fn_main_v50 (F := Ideal) (b0V (lV v)) (b0V (rV v)) (b1V (lV v)) (b1V (rV v))) bitsLt_bf16_f32

theorem hV_at (b : Fin 2) (t : Fin 2048) (d : Fin 1024) :
    hV x sh sc g (ix3 b t d) = hrow (fun e => x (ix3 b t e)) (g (ix2 0 d)) (sc (ix2 b d)) (sh (ix2 b d)) d := by
  pointwise [hV, hrow]

theorem pV_at (h : FVec Ideal S2x2048x1024 .f32) (b : Fin 2) (t : Fin 2048) (q : Fin 3456) :
    pV w h (ix3 b t q) = ∑ d, h (ix3 b t d) * w (ix2 d q) := by
  pointwise [pV]

theorem hbV_at (h : FVec Ideal S2x2048x1024 .f32) (r : Fin 4096) (d : Fin 1024) : hbV h (ix2 r d) = h (ix3 (rb r) (rt r) d) := by
  pointwise [hbV]

theorem qV_at (r : Fin 4096) (l : Fin 512) : qV p (ix2 r l) = p (ix3 (rb r) (rt r) ⟨l, by omega⟩) := by
  pointwise [qV]

theorem kV_at (r : Fin 4096) (l : Fin 128) : kV p (ix2 r l) = p (ix3 (rb r) (rt r) ⟨512 + l, by omega⟩) := by
  pointwise [kV]

theorem gaV_at (r : Fin 4096) (l : Fin 512) : gaV p (ix2 r l) = p (ix3 (rb r) (rt r) ⟨768 + l, by omega⟩) := by
  pointwise [gaV]

theorem riV_at (r : Fin 4096) (l : Fin 1664) : riV p (ix2 r l) = p (ix3 (rb r) (rt r) ⟨1280 + l, by omega⟩) := by
  pointwise [riV]

theorem grV_at (r : Fin 4096) (l : Fin 512) : grV p (ix2 r l) = p (ix3 (rb r) (rt r) ⟨2944 + l, by omega⟩) := by
  pointwise [grV]

theorem vV_at (r : Fin 4096) (k : Fin 2) (j : Fin 64) : vV p (ix3 r k j) = p (ix3 (rb r) (rt r) ⟨640 + 64 * k + j, by omega⟩) := by
  pointwise [vV]
  exact congrArg p (congrArg _ (Fin.ext (by show 640 + ((k : ℕ) * 64 + j) = 640 + 64 * k + j; omega)))

theorem zero_pad : (FloatOps.sitofp .f32 (0#32 : BitVec 32) : Ideal .f32) = (0 : EReal) := by
  show ((((0#32 : BitVec 32).toInt : ℝ)) : EReal) = 0
  simp

theorem lV_at (r : Fin 4096) (k : Fin 2) (l : Fin 128) : lV v (ix3 r k l) = if (l : ℕ) < 64 then v (ix3 r k ⟨l % 64, by omega⟩) else 0 := by
  pointwise [lV]
  by_cases h : (l : ℕ) < 64
  · rw [dif_pos h, if_pos h]
    exact congrArg v (congrArg _ (Fin.ext (Nat.mod_eq_of_lt h).symm))
  · rw [dif_neg h, if_neg h]
    exact zero_pad

theorem rV_at (r : Fin 4096) (k : Fin 2) (l : Fin 128) : rV v (ix3 r k l) = if (l : ℕ) < 64 then 0 else v (ix3 r k ⟨l % 64, by omega⟩) := by
  pointwise [rV]
  by_cases h : (l : ℕ) < 64
  · rw [dif_neg (by omega), if_pos h]
    exact zero_pad
  · rw [dif_pos (by omega), if_neg h]
    exact congrArg v (congrArg _ (Fin.ext (by show (l : ℕ) - 64 = l % 64; omega)))

theorem b0V_at (u : FVec Ideal S4096x2x128 .f32) (r : Fin 4096) (l : Fin 128) : b0V u (ix3 0 r l) = u (ix3 r 0 l) := by
  pointwise [b0V]

theorem b1V_at (u : FVec Ideal S4096x2x128 .f32) (r : Fin 4096) (l : Fin 128) : b1V u (ix3 0 r l) = u (ix3 r 1 l) := by
  pointwise [b1V]

theorem vpV_at (s : Fin 4) (r : Fin 4096) (l : Fin 128) : vpV v (ix3 s r l) =
    if ((s : ℕ) % 2 = 0 ↔ (l : ℕ) < 64) then v (ix3 r ⟨(s : ℕ) / 2, by omega⟩ ⟨l % 64, by omega⟩) else 0 := by
  pointwise [vpV, fn_main_v50]
  obtain ⟨s, hs⟩ := s
  interval_cases s
  · refine (b0V_at _ r l).trans ((lV_at v r 0 l).trans ?_)
    by_cases h : (l : ℕ) < 64 <;> simp [h]
  · refine (b0V_at _ r l).trans ((rV_at v r 0 l).trans ?_)
    by_cases h : (l : ℕ) < 64 <;> simp [h]
  · refine (b1V_at _ r l).trans ((lV_at v r 1 l).trans ?_)
    by_cases h : (l : ℕ) < 64 <;> simp [h]
  · refine (b1V_at _ r l).trans ((rV_at v r 1 l).trans ?_)
    by_cases h : (l : ℕ) < 64 <;> simp [h]

set_option maxHeartbeats 4000000 in
theorem staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let h := hV (m ((c.tc : Thread nD τ).loc main_arg0)) (m ((c.tc : Thread nD τ).loc main_arg1)) (m ((c.tc : Thread nD τ).loc main_arg2)) (m ((c.tc : Thread nD τ).loc main_arg3))
      let p := pV (m ((c.tc : Thread nD τ).loc main_arg4)) h
      r.2.mem ((c.tc : Thread nD τ).loc main_v52) = hbV h
      ∧ r.2.mem ((c.tc : Thread nD τ).loc main_v53) = vpV (vV p)
      ∧ r.2.mem ((c.tc : Thread nD τ).loc main_v29) = qV p
      ∧ r.2.mem ((c.tc : Thread nD τ).loc main_v30) = kV p
      ∧ r.2.mem ((c.tc : Thread nD τ).loc main_v32) = gaV p
      ∧ r.2.mem ((c.tc : Thread nD τ).loc main_v33) = riV p
      ∧ r.2.mem ((c.tc : Thread nD τ).loc main_v34) = grV p
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6, h7⟩ := h c
    exact ⟨h0.trans rfl, h1.trans rfl, h2.trans rfl, h3.trans rfl, h4.trans rfl, h5.trans rfl, h6.trans rfl, h7⟩) (run m ρ)

end Cert.Reference4Ideal.Value

end
-- ==== Proof.InEq.lean ====
/-
  The input projection: the programs' results are the same arrays.
-/
module

public import proofs.«01_k».proof.Defs
public import proofs.«01_k».proof.Proof.Algebraic
public import proofs.«01_k».proof.Proof.InProj
public import proofs.«01_k».proof.Proof.InRef
public import Idealize.ShloMosaic.Lib.Claim

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.InProj

/-- The results claimed, in their order. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66_0) = (dats m 0 c).arrAt 10 cfg0.N
      ∧ r.2.mem ((c.tc : Thread nD τ).loc main_v66_3) = (dats m 0 c).arrAt 13 cfg0.N
      ∧ r.2.mem ((c.tc : Thread nD τ).loc main_v66_4) = (dats m 0 c).arrAt 14 cfg0.N
      ∧ r.2.mem ((c.tc : Thread nD τ).loc main_v66_5) = (dats m 0 c).arrAt 15 cfg0.N
      ∧ r.2.mem ((c.tc : Thread nD τ).loc main_v66_6) = (dats m 0 c).arrAt 16 cfg0.N
      ∧ r.2.mem ((c.tc : Thread nD τ).loc main_v66_7) = (dats m 0 c).arrAt 17 cfg0.N
      ∧ r.2.mem ((c.tc : Thread nD τ).loc main_v66_8) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, _, _, h3, h4, h5, h6, h7, h8, h9⟩ := h c
    exact ⟨h0, h3, h4, h5, h6, h7, h8, h9⟩) (run_blocks m ρ)

end Cert.Kernel4Ideal.Value

namespace Cert.Proof

open Cert.InProj
open Cert.Reference4Ideal.Value (hV pV hbV qV kV gaV riV grV vV vpV)
open Cert.Kernel4Ideal.Value (aX aSh aSc aG aW kH kP)

section
variable (m : (ℓ : Loc Cert.Kernel4Ideal.nD Cert.Kernel4Ideal.τ Cert.Kernel4Ideal.sig) → Buf (Elt Ideal) ℓ) (c : Dev Cert.Kernel4Ideal.nD)

/-- The reference's input after the norm, and its projection, at the call's arguments. -/
abbrev hR : FVec Ideal Cert.Reference4Ideal.S2x2048x1024 .f32 :=
  hV (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
abbrev pR : FVec Ideal Cert.Reference4Ideal.S2x2048x3456 .f32 :=
  pV (m ((c.tc : Thread Cert.Kernel4Ideal.nD Cert.Kernel4Ideal.τ).loc Cert.Kernel4Ideal.main_arg4)) (hR m c)

theorem hR_at (r : Fin 4096) (d : Fin 1024) : hR m c (ix3 (rb r) (rt r) d) = kH m c r d :=
  Cert.Reference4Ideal.Value.hV_at _ _ _ _ _ _ d

theorem pR_at (r : Fin 4096) (p : Fin 3456) : pR m c (ix3 (rb r) (rt r) p) = kP m c r p :=
  (Cert.Reference4Ideal.Value.pV_at _ _ _ _ p).trans
    (Finset.sum_congr rfl fun d _ => congrArg (· * _) (hR_at m c r d))

theorem eq_hb : hbV (hR m c) = (Cert.Kernel4Ideal.Gen.dats m 0 c).arrAt 10 Cert.Kernel4Ideal.cfg0.N := by
  rw [Cert.Kernel4Ideal.Value.arr10]
  funext i
  obtain ⟨r, d, rfl⟩ : ∃ r d, i = ix2 r d := ex_2 i
  exact (Cert.Reference4Ideal.Value.hbV_at _ r d).trans (hR_at m c r d)

theorem eq_qraw : qV (pR m c) = (Cert.Kernel4Ideal.Gen.dats m 0 c).arrAt 14 Cert.Kernel4Ideal.cfg0.N := by
  rw [Cert.Kernel4Ideal.Value.arr14]
  funext i
  obtain ⟨r, l, rfl⟩ : ∃ r l, i = ix2 r l := ex_2 i
  exact (Cert.Reference4Ideal.Value.qV_at _ r l).trans (pR_at m c r _)

theorem eq_kraw : kV (pR m c) = (Cert.Kernel4Ideal.Gen.dats m 0 c).arrAt 15 Cert.Kernel4Ideal.cfg0.N := by
  rw [Cert.Kernel4Ideal.Value.arr15]
  funext i
  obtain ⟨r, l, rfl⟩ : ∃ r l, i = ix2 r l := ex_2 i
  exact (Cert.Reference4Ideal.Value.kV_at _ r l).trans (pR_at m c r _)

theorem eq_gatt : gaV (pR m c) = (Cert.Kernel4Ideal.Gen.dats m 0 c).arrAt 16 Cert.Kernel4Ideal.cfg0.N := by
  rw [Cert.Kernel4Ideal.Value.arr16]
  funext i
  obtain ⟨r, l, rfl⟩ : ∃ r l, i = ix2 r l := ex_2 i
  exact (Cert.Reference4Ideal.Value.gaV_at _ r l).trans (pR_at m c r _)

theorem eq_rin : riV (pR m c) = (Cert.Kernel4Ideal.Gen.dats m 0 c).arrAt 17 Cert.Kernel4Ideal.cfg0.N := by
  rw [Cert.Kernel4Ideal.Value.arr17]
  funext i
  obtain ⟨r, l, rfl⟩ : ∃ r l, i = ix2 r l := ex_2 i
  exact (Cert.Reference4Ideal.Value.riV_at _ r l).trans (pR_at m c r _)

theorem eq_grw : grV (pR m c) = (Cert.Kernel4Ideal.Gen.dats m 0 c).arrAt 18 Cert.Kernel4Ideal.cfg0.N := by
  rw [Cert.Kernel4Ideal.Value.arr18]
  funext i
  obtain ⟨r, l, rfl⟩ : ∃ r l, i = ix2 r l := ex_2 i
  exact (Cert.Reference4Ideal.Value.grV_at _ r l).trans (pR_at m c r _)

theorem ex_vp (x : Cert.Kernel4Ideal.S4x4096x128.Idx) : ∃ (s : Fin 4) (a : Fin 4096) (b : Fin 128), x = ix3 s a b :=
  ⟨x 0, x 1, x 2, by ext i; fin_cases i <;> rfl⟩

theorem eq_vpad : vpV (vV (pR m c)) = (Cert.Kernel4Ideal.Gen.dats m 0 c).arrAt 13 Cert.Kernel4Ideal.cfg0.N := by
  rw [Cert.Kernel4Ideal.Value.arr13]
  funext i
  obtain ⟨s, r, l, rfl⟩ := ex_vp i
  refine (Cert.Reference4Ideal.Value.vpV_at _ s r l).trans (if_congr Iff.rfl ?_ rfl)
  exact (Cert.Reference4Ideal.Value.vV_at _ r _ _).trans (pR_at m c r _)

end

set_option maxHeartbeats 6400000 in
theorem algebraic_h : Cert.algebraic_Kernel4Ideal_Reference4Ideal := by
  pair_intro
  · run_from Cert.Kernel4Ideal.Value.run_results m g
  · run_from Cert.Reference4Ideal.Value.staged m' g'
    · exact eq_hb m c
    · exact eq_vpad m c
    · exact eq_qraw m c
    · exact eq_kraw m c
    · exact eq_gatt m c
    · exact eq_rin m c
    · exact eq_grw m c

theorem frame_reference_h : Cert.quiescent_Reference4Ideal := by
  intro m g _
  hlo_run
  · exact fun _ => ⟨trivial, trivial, trivial, trivial, trivial, trivial, trivial⟩
  exact Idealize.ShloMosaic.sem_eq_zero_of_no_sems (sig := Cert.Reference4Ideal.sig) (by decide) _

end Cert.Proof

end
-- ==== Proof.AdamSpec.lean ====
/-
  AdamW at a weight: the new moments and the weight's change, from its gradient.
-/
module

public import proofs.«01_k».proof.Proof.Spec

@[expose] public section

noncomputable section

open Idealize.ShloMosaic

namespace Cert.Adam

variable {ι : Type}

/-- The new first moment. -/
def newM (m g : ι → EReal) : ι → EReal := fun i => Ideal.ofBits .f32 0x3F666666#32 * m i + Ideal.ofBits .f32 0x3DCCCCCD#32 * g i

/-- The new second moment. -/
def newV (v g : ι → EReal) : ι → EReal := fun i => Ideal.ofBits .f32 0x3F7FBE77#32 * v i + Ideal.ofBits .f32 0x3A83126F#32 * (g i * g i)

/-- The weight's change. -/
def change (w m v g : ι → EReal) : ι → EReal := fun i =>
  Ideal.ofBits .f32 0xBA83126F#32 * (Ideal.div (Ideal.div (newM m g i) (Ideal.ofBits .f32 0x3F26BD02#32))
    (Ideal.sqrt (Ideal.div (newV v g i) (Ideal.ofBits .f32 0x3C231ACC#32)) + Ideal.ofBits .f32 0x322BCC77#32) + Ideal.ofBits .f32 0x3C23D70A#32 * w i)

/-- The sum of four devices' terms. -/
def four {A B : ℕ} (x : (⟨3, ![4, A, B]⟩ : Shape).Idx → EReal) : (⟨2, ![A, B]⟩ : Shape).Idx → EReal := fun y =>
  x (ix3 0 (y 0) (y 1)) + x (ix3 1 (y 0) (y 1)) + x (ix3 2 (y 0) (y 1)) + x (ix3 3 (y 0) (y 1))

end Cert.Adam

end
-- ==== Proof.AdamIn.lean ====
/-
  AdamW at the input projection's weight: its call and the reference leave the same arrays.
-/
module

public import proofs.«01_k».proof.Proof.AdamSpec
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Adam

variable (p0 p1 p2 p3 : Vec Ideal S1x512x432 .bf16) (w m' v : Vec Ideal S512x432 .f32)

theorem pay2 (a : Fin 512) (b : Fin 432) :
    k0_pay2 (F := Ideal) p0 p1 p2 p3 (ix2 a b) = p0 (ix3 0 a b) + p1 (ix3 0 a b) + p2 (ix3 0 a b) + p3 (ix3 0 a b) := by
  pointwise [k0_pay2]

theorem pay3 : k0_pay3 (F := Ideal) p0 p1 p2 p3 m' = newM m' (k0_pay2 (F := Ideal) p0 p1 p2 p3) := rfl

theorem pay4 : k0_pay4 (F := Ideal) p0 p1 p2 p3 v = newV v (k0_pay2 (F := Ideal) p0 p1 p2 p3) := rfl

theorem pay1 : k0_pay1 (F := Ideal) (k0_pay5 (F := Ideal) p0 p1 p2 p3 m') (k0_pay6 (F := Ideal) p0 p1 p2 p3 v) w
    = change w m' v (k0_pay2 (F := Ideal) p0 p1 p2 p3) := rfl

/-- One device's terms. -/
theorem slab (k : Fin 4) (h) (x : FVec Ideal S4x512x432 .bf16) (a : Fin 512) (b : Fin 432) :
    (show EReal from View.ld (Val := Elt Ideal) (e' := .bf16) x (Rect.unit (s := S4x512x432) ![(k : ℕ), 0, 0] S1x512x432.size h) (ix3 0 a b)) = x (ix3 k a b) := by
  refine congrArg x (funext fun i => Fin.ext ?_)
  match i with
  | ⟨0, _⟩ => show (k : ℕ) + 1 * 0 = k; omega
  | ⟨1, _⟩ => show 0 + 1 * (a : ℕ) = a; omega
  | ⟨2, _⟩ => show 0 + 1 * (b : ℕ) = b; omega

theorem sum4 (x : FVec Ideal S4x512x432 .bf16) :
    k0_pay2 (F := Ideal) (View.ld x r0_0) (View.ld x r0_1) (View.ld x r0_2) (View.ld x r0_3) = four (A := 512) (B := 432) x := by
  funext y
  obtain ⟨a, b, rfl⟩ : ∃ (a : Fin 512) (b : Fin 432), y = ix2 a b := ⟨y 0, y 1, by ext i; fin_cases i <;> rfl⟩
  refine (pay2 _ _ _ _ a b).trans ?_
  exact congrArg₂ (· + ·) (congrArg₂ (· + ·) (congrArg₂ (· + ·) (slab 0 _ x a b) (slab 1 _ x a b)) (slab 2 _ x a b)) (slab 3 _ x a b)

section
variable (m : (ℓ : Loc nD τ sig) → Buf (Elt Ideal) ℓ) (c : Dev nD)

theorem idx : ∀ t : Fin cfg0.N,
    win0_0.index t = ![0, (t : ℕ), 0] ∧ win0_1.index t = ![(t : ℕ), 0] ∧ win0_2.index t = ![(t : ℕ), 0] ∧ win0_3.index t = ![(t : ℕ), 0]
      ∧ win0_4.index t = ![(t : ℕ), 0] ∧ win0_5.index t = ![(t : ℕ), 0] ∧ win0_6.index t = ![(t : ℕ), 0] ∧ win0_7.index t = ![(t : ℕ), 0] :=
  (by decide +kernel : ∀ t : Fin grid0.N, _)

theorem lt2 (t : Fin cfg0.N) : (t : ℕ) < 2 := lt_of_lt_of_eq t.isLt (show cfg0.N = 2 from N_0)

/-- Row `a` of the point's block. -/
abbrev rt (t : Fin cfg0.N) (a : Fin 512) : Fin 1024 := ⟨512 * t + a, by have := lt2 t; omega⟩

theorem emb0 (t : Fin cfg0.N) (k : Fin 4) (a : Fin 512) (b : Fin 432) : (win0_0.blk t).view.emb (ix3 k a b) = ix3 k (rt t a) b := by
  blk_ext [idx t]

theorem emb1 (t : Fin cfg0.N) (a : Fin 512) (b : Fin 432) : (win0_1.blk t).view.emb (ix2 a b) = ix2 (rt t a) b := by
  blk_ext [idx t]

theorem emb2 (t : Fin cfg0.N) (a : Fin 512) (b : Fin 432) : (win0_2.blk t).view.emb (ix2 a b) = ix2 (rt t a) b := by
  blk_ext [idx t]

theorem emb3 (t : Fin cfg0.N) (a : Fin 512) (b : Fin 432) : (win0_3.blk t).view.emb (ix2 a b) = ix2 (rt t a) b := by
  blk_ext [idx t]

theorem emb4 (t : Fin cfg0.N) (a : Fin 512) (b : Fin 432) : (win0_4.blk t).view.emb (ix2 a b) = ix2 (rt t a) b := by
  blk_ext [idx t]

theorem emb5 (t : Fin cfg0.N) (a : Fin 512) (b : Fin 432) : (win0_5.blk t).view.emb (ix2 a b) = ix2 (rt t a) b := by
  blk_ext [idx t]

theorem emb6 (t : Fin cfg0.N) (a : Fin 512) (b : Fin 432) : (win0_6.blk t).view.emb (ix2 a b) = ix2 (rt t a) b := by
  blk_ext [idx t]

theorem emb7 (t : Fin cfg0.N) (a : Fin 512) (b : Fin 432) : (win0_7.blk t).view.emb (ix2 a b) = ix2 (rt t a) b := by
  blk_ext [idx t]

theorem blk0 (t : Fin cfg0.N) (k : Fin 4) (a : Fin 512) (b : Fin 432) :
    (show EReal from iblk m c 0 t (ix3 k a b)) = m ((c.tc : Thread nD τ).loc main_arg0) (ix3 k (rt t a) b) := by
  blk_simp [iblk]
  rw [emb0]

theorem blk1 (t : Fin cfg0.N) (a : Fin 512) (b : Fin 432) :
    (show EReal from iblk m c 1 t (ix2 a b)) = m ((c.tc : Thread nD τ).loc main_arg1) (ix2 (rt t a) b) := by
  blk_simp [iblk]
  rw [emb1]

theorem blk2 (t : Fin cfg0.N) (a : Fin 512) (b : Fin 432) :
    (show EReal from iblk m c 2 t (ix2 a b)) = m ((c.tc : Thread nD τ).loc main_arg2) (ix2 (rt t a) b) := by
  blk_simp [iblk]
  rw [emb2]

theorem blk3 (t : Fin cfg0.N) (a : Fin 512) (b : Fin 432) :
    (show EReal from iblk m c 3 t (ix2 a b)) = m ((c.tc : Thread nD τ).loc main_arg3) (ix2 (rt t a) b) := by
  blk_simp [iblk]
  rw [emb3]

theorem four_blk (t : Fin cfg0.N) (a : Fin 512) (b : Fin 432) :
    four (A := 512) (B := 432) (iblk m c 0 t) (ix2 a b) = four (A := 1024) (B := 432) (m ((c.tc : Thread nD τ).loc main_arg0)) (ix2 (rt t a) b) :=
  congrArg₂ (· + ·) (congrArg₂ (· + ·) (congrArg₂ (· + ·) (blk0 m c t 0 a b) (blk0 m c t 1 a b)) (blk0 m c t 2 a b)) (blk0 m c t 3 a b)

theorem hz : (![0, 0] : Fin 2 → ℕ) = fun _ => 0 := by funext i; fin_cases i <;> rfl

theorem ex_b (x : S512x432.Idx) : ∃ (a : Fin 512) (b : Fin 432), x = ix2 a b := ⟨x 0, x 1, by ext i; fin_cases i <;> rfl⟩

theorem arr4 : (dats m 0 c).arrAt 4 cfg0.N = four (A := 1024) (B := 432) (m ((c.tc : Thread nD τ).loc main_arg0)) := by
  refine (dats m 0 c).arrAt_eq_of_covers 4 _ (by decide +kernel) fun t hf y => ?_
  rw [after0_4, out0_4, View.canon_unit_zero hz, sum4]
  blk_simp
  obtain ⟨a, b, rfl⟩ := ex_b y
  rw [emb4]
  exact four_blk m c t a b

theorem arr5 : (dats m 0 c).arrAt 5 cfg0.N = change (m ((c.tc : Thread nD τ).loc main_arg1)) (m ((c.tc : Thread nD τ).loc main_arg2)) (m ((c.tc : Thread nD τ).loc main_arg3)) (four (A := 1024) (B := 432) (m ((c.tc : Thread nD τ).loc main_arg0))) := by
  refine (dats m 0 c).arrAt_eq_of_covers 5 _ (by decide +kernel) fun t hf y => ?_
  rw [after0_5, out0_5, View.canon_unit_zero hz, pay1, sum4, View.ld_unit_zero (S := S512x432) hz, View.ld_unit_zero (S := S512x432) hz, View.ld_unit_zero (S := S512x432) hz]
  blk_simp
  obtain ⟨a, b, rfl⟩ := ex_b y
  rw [emb5]
  unfold change newM newV
  rw [four_blk m c t a b]
  simp only [blk1 m c t a b, blk2 m c t a b, blk3 m c t a b]

theorem arr6 : (dats m 0 c).arrAt 6 cfg0.N = newM (m ((c.tc : Thread nD τ).loc main_arg2)) (four (A := 1024) (B := 432) (m ((c.tc : Thread nD τ).loc main_arg0))) := by
  refine (dats m 0 c).arrAt_eq_of_covers 6 _ (by decide +kernel) fun t hf y => ?_
  rw [after0_6, out0_6, View.canon_unit_zero hz, pay3, sum4, View.ld_unit_zero (S := S512x432) hz]
  blk_simp
  obtain ⟨a, b, rfl⟩ := ex_b y
  rw [emb6]
  exact congrArg₂ (fun u s : EReal => Ideal.ofBits .f32 0x3F666666#32 * u + Ideal.ofBits .f32 0x3DCCCCCD#32 * s) (blk2 m c t a b) (four_blk m c t a b)

theorem arr7 : (dats m 0 c).arrAt 7 cfg0.N = newV (m ((c.tc : Thread nD τ).loc main_arg3)) (four (A := 1024) (B := 432) (m ((c.tc : Thread nD τ).loc main_arg0))) := by
  refine (dats m 0 c).arrAt_eq_of_covers 7 _ (by decide +kernel) fun t hf y => ?_
  rw [after0_7, out0_7, View.canon_unit_zero hz, pay4, sum4, View.ld_unit_zero (S := S512x432) hz]
  blk_simp
  obtain ⟨a, b, rfl⟩ := ex_b y
  rw [emb7]
  exact congrArg₂ (fun u s : EReal => Ideal.ofBits .f32 0x3F7FBE77#32 * u + Ideal.ofBits .f32 0x3A83126F#32 * (s * s)) (blk3 m c t a b) (four_blk m c t a b)

end

theorem run_adam (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0_0) = four (A := 1024) (B := 432) (m ((c.tc : Thread nD τ).loc main_arg0))
      ∧ r.2.mem ((c.tc : Thread nD τ).loc main_v0_1) = change (m ((c.tc : Thread nD τ).loc main_arg1)) (m ((c.tc : Thread nD τ).loc main_arg2)) (m ((c.tc : Thread nD τ).loc main_arg3)) (four (A := 1024) (B := 432) (m ((c.tc : Thread nD τ).loc main_arg0)))
      ∧ r.2.mem ((c.tc : Thread nD τ).loc main_v0_2) = newM (m ((c.tc : Thread nD τ).loc main_arg2)) (four (A := 1024) (B := 432) (m ((c.tc : Thread nD τ).loc main_arg0)))
      ∧ r.2.mem ((c.tc : Thread nD τ).loc main_v0_3) = newV (m ((c.tc : Thread nD τ).loc main_arg3)) (four (A := 1024) (B := 432) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run_blocks m g)
  obtain ⟨h0, h1, h2, h3, h4⟩ := h c
  exact ⟨h0.trans (arr4 m c), h1.trans (arr5 m c), h2.trans (arr6 m c), h3.trans (arr7 m c), h4⟩

end Cert.Kernel5Ideal.Value

namespace Cert.Reference5Ideal.Value

open Cert.Reference5Ideal Cert.Reference5Ideal.Gen Cert.Adam

theorem sum_eq (x : FVec Ideal S4x1024x432 .bf16) :
    (Host.reduceAdd (extf .f32 x bitsLt_bf16_f32) (constant S_ .f32 0x00000000#32) reducesTo_S4x1024x432_S1024x432_d0 h_S_ : FVec Ideal S1024x432 .f32) = four (A := 1024) (B := 432) x := by
  funext y
  obtain ⟨a, b, rfl⟩ : ∃ (a : Fin 1024) (b : Fin 432), y = ix2 a b := ⟨y 0, y 1, by ext i; fin_cases i <;> rfl⟩
  pointwise [four]
  simp only [Fin.sum_univ_four]

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v1) = four (A := 1024) (B := 432) (m ((c.tc : Thread nD τ).loc main_arg0))
      ∧ r.2.mem ((c.tc : Thread nD τ).loc main_v25) = change (m ((c.tc : Thread nD τ).loc main_arg1)) (m ((c.tc : Thread nD τ).loc main_arg2)) (m ((c.tc : Thread nD τ).loc main_arg3)) (four (A := 1024) (B := 432) (m ((c.tc : Thread nD τ).loc main_arg0)))
      ∧ r.2.mem ((c.tc : Thread nD τ).loc main_v6) = newM (m ((c.tc : Thread nD τ).loc main_arg2)) (four (A := 1024) (B := 432) (m ((c.tc : Thread nD τ).loc main_arg0)))
      ∧ r.2.mem ((c.tc : Thread nD τ).loc main_v12) = newV (m ((c.tc : Thread nD τ).loc main_arg3)) (four (A := 1024) (B := 432) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m g)
  obtain ⟨h0, h1, h2, h3, h4⟩ := h c
  rw [sum_eq] at h0 h1 h2 h3
  exact ⟨h0, h1.trans rfl, h2.trans rfl, h3.trans rfl, h4⟩

end Cert.Reference5Ideal.Value

end
-- ==== Proof.AdamOut.lean ====
/-
  AdamW at the output projection's weight: its call and the reference leave the same arrays.
-/
module

public import proofs.«01_k».proof.Proof.AdamSpec
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Adam

variable (p0 p1 p2 p3 : Vec Ideal S1x128x1024 .bf16) (w m' v : Vec Ideal S128x1024 .f32)

theorem pay2 (a : Fin 128) (b : Fin 1024) :
    k0_pay2 (F := Ideal) p0 p1 p2 p3 (ix2 a b) = p0 (ix3 0 a b) + p1 (ix3 0 a b) + p2 (ix3 0 a b) + p3 (ix3 0 a b) := by
  pointwise [k0_pay2]

theorem pay3 : k0_pay3 (F := Ideal) p0 p1 p2 p3 m' = newM m' (k0_pay2 (F := Ideal) p0 p1 p2 p3) := rfl

theorem pay4 : k0_pay4 (F := Ideal) p0 p1 p2 p3 v = newV v (k0_pay2 (F := Ideal) p0 p1 p2 p3) := rfl

theorem pay1 : k0_pay1 (F := Ideal) (k0_pay5 (F := Ideal) p0 p1 p2 p3 m') (k0_pay6 (F := Ideal) p0 p1 p2 p3 v) w
    = change w m' v (k0_pay2 (F := Ideal) p0 p1 p2 p3) := rfl

/-- One device's terms. -/
theorem slab (k : Fin 4) (h) (x : FVec Ideal S4x128x1024 .bf16) (a : Fin 128) (b : Fin 1024) :
    (show EReal from View.ld (Val := Elt Ideal) (e' := .bf16) x (Rect.unit (s := S4x128x1024) ![(k : ℕ), 0, 0] S1x128x1024.size h) (ix3 0 a b)) = x (ix3 k a b) := by
  refine congrArg x (funext fun i => Fin.ext ?_)
  match i with
  | ⟨0, _⟩ => show (k : ℕ) + 1 * 0 = k; omega
  | ⟨1, _⟩ => show 0 + 1 * (a : ℕ) = a; omega
  | ⟨2, _⟩ => show 0 + 1 * (b : ℕ) = b; omega

theorem sum4 (x : FVec Ideal S4x128x1024 .bf16) :
    k0_pay2 (F := Ideal) (View.ld x r0_0) (View.ld x r0_1) (View.ld x r0_2) (View.ld x r0_3) = four (A := 128) (B := 1024) x := by
  funext y
  obtain ⟨a, b, rfl⟩ : ∃ (a : Fin 128) (b : Fin 1024), y = ix2 a b := ⟨y 0, y 1, by ext i; fin_cases i <;> rfl⟩
  refine (pay2 _ _ _ _ a b).trans ?_
  exact congrArg₂ (· + ·) (congrArg₂ (· + ·) (congrArg₂ (· + ·) (slab 0 _ x a b) (slab 1 _ x a b)) (slab 2 _ x a b)) (slab 3 _ x a b)

theorem run_adam (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0_0) = four (A := 128) (B := 1024) (m ((c.tc : Thread nD τ).loc main_arg0))
      ∧ r.2.mem ((c.tc : Thread nD τ).loc main_v0_1) = change (m ((c.tc : Thread nD τ).loc main_arg1)) (m ((c.tc : Thread nD τ).loc main_arg2)) (m ((c.tc : Thread nD τ).loc main_arg3)) (four (A := 128) (B := 1024) (m ((c.tc : Thread nD τ).loc main_arg0)))
      ∧ r.2.mem ((c.tc : Thread nD τ).loc main_v0_2) = newM (m ((c.tc : Thread nD τ).loc main_arg2)) (four (A := 128) (B := 1024) (m ((c.tc : Thread nD τ).loc main_arg0)))
      ∧ r.2.mem ((c.tc : Thread nD τ).loc main_v0_3) = newV (m ((c.tc : Thread nD τ).loc main_arg3)) (four (A := 128) (B := 1024) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m g)
  obtain ⟨h0, h1, h2, h3, h4⟩ := h c
  exact ⟨h0.trans (sum4 _), h1.trans ((pay1 ..).trans (congrArg _ (sum4 _))), h2.trans ((pay3 ..).trans (congrArg _ (sum4 _))), h3.trans ((pay4 ..).trans (congrArg _ (sum4 _))), h4⟩

end Cert.Kernel6Ideal.Value

namespace Cert.Reference6Ideal.Value

open Cert.Reference6Ideal Cert.Reference6Ideal.Gen Cert.Adam

theorem sum_eq (x : FVec Ideal S4x128x1024 .bf16) :
    (Host.reduceAdd (extf .f32 x bitsLt_bf16_f32) (constant S_ .f32 0x00000000#32) reducesTo_S4x128x1024_S128x1024_d0 h_S_ : FVec Ideal S128x1024 .f32) = four (A := 128) (B := 1024) x := by
  funext y
  obtain ⟨a, b, rfl⟩ : ∃ (a : Fin 128) (b : Fin 1024), y = ix2 a b := ⟨y 0, y 1, by ext i; fin_cases i <;> rfl⟩
  pointwise [four]
  simp only [Fin.sum_univ_four]

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v1) = four (A := 128) (B := 1024) (m ((c.tc : Thread nD τ).loc main_arg0))
      ∧ r.2.mem ((c.tc : Thread nD τ).loc main_v25) = change (m ((c.tc : Thread nD τ).loc main_arg1)) (m ((c.tc : Thread nD τ).loc main_arg2)) (m ((c.tc : Thread nD τ).loc main_arg3)) (four (A := 128) (B := 1024) (m ((c.tc : Thread nD τ).loc main_arg0)))
      ∧ r.2.mem ((c.tc : Thread nD τ).loc main_v6) = newM (m ((c.tc : Thread nD τ).loc main_arg2)) (four (A := 128) (B := 1024) (m ((c.tc : Thread nD τ).loc main_arg0)))
      ∧ r.2.mem ((c.tc : Thread nD τ).loc main_v12) = newV (m ((c.tc : Thread nD τ).loc main_arg3)) (four (A := 128) (B := 1024) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m g)
  obtain ⟨h0, h1, h2, h3, h4⟩ := h c
  rw [sum_eq] at h0 h1 h2 h3
  exact ⟨h0, h1.trans rfl, h2.trans rfl, h3.trans rfl, h4⟩

end Cert.Reference6Ideal.Value

end
-- ==== Proof.AdamAda.lean ====
/-
  AdamW at the modulation's weight: its call and the reference leave the same arrays.
-/
module

public import proofs.«01_k».proof.Proof.AdamSpec
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel7Ideal.Value

open Cert.Kernel7Ideal Cert.Kernel7Ideal.Gen Cert.Adam

/-- The given gradient. -/
def one (x : S1x1024x384.Idx → EReal) : S1024x384.Idx → EReal := fun y => x (ix3 0 (y 0) (y 1))

variable (p : Vec Ideal S1x1024x384 .f32) (w m' v : Vec Ideal S1024x384 .f32)

theorem pay1 : k0_pay1 (F := Ideal) p = one p := by
  funext y
  obtain ⟨a, b, rfl⟩ : ∃ (a : Fin 1024) (b : Fin 384), y = ix2 a b := ⟨y 0, y 1, by ext i; fin_cases i <;> rfl⟩
  pointwise [k0_pay1, one]

theorem pay2 : k0_pay2 (F := Ideal) p m' = newM m' (k0_pay1 (F := Ideal) p) := rfl

theorem pay3 : k0_pay3 (F := Ideal) p v = newV v (k0_pay1 (F := Ideal) p) := rfl

theorem pay4 : k0_pay4 (F := Ideal) p m' v w = change w m' v (k0_pay1 (F := Ideal) p) := rfl

theorem run_adam (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0_0) = one (m ((c.tc : Thread nD τ).loc main_arg0))
      ∧ r.2.mem ((c.tc : Thread nD τ).loc main_v0_1) = change (m ((c.tc : Thread nD τ).loc main_arg1)) (m ((c.tc : Thread nD τ).loc main_arg2)) (m ((c.tc : Thread nD τ).loc main_arg3)) (one (m ((c.tc : Thread nD τ).loc main_arg0)))
      ∧ r.2.mem ((c.tc : Thread nD τ).loc main_v0_2) = newM (m ((c.tc : Thread nD τ).loc main_arg2)) (one (m ((c.tc : Thread nD τ).loc main_arg0)))
      ∧ r.2.mem ((c.tc : Thread nD τ).loc main_v0_3) = newV (m ((c.tc : Thread nD τ).loc main_arg3)) (one (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m g)
  obtain ⟨h0, h1, h2, h3, h4⟩ := h c
  exact ⟨h0.trans (pay1 _), h1.trans ((pay4 ..).trans (congrArg _ (pay1 _))), h2.trans ((pay2 ..).trans (congrArg _ (pay1 _))), h3.trans ((pay3 ..).trans (congrArg _ (pay1 _))), h4⟩

end Cert.Kernel7Ideal.Value

namespace Cert.Reference7Ideal.Value

open Cert.Reference7Ideal Cert.Reference7Ideal.Gen Cert.Adam
open Cert.Kernel7Ideal.Value (one)

theorem sum_eq (x : FVec Ideal S1x1024x384 .f32) :
    (Host.reduceAdd x (constant S_ .f32 0x00000000#32) reducesTo_S1x1024x384_S1024x384_d0 h_S_ : FVec Ideal S1024x384 .f32) = one x := by
  funext y
  obtain ⟨a, b, rfl⟩ : ∃ (a : Fin 1024) (b : Fin 384), y = ix2 a b := ⟨y 0, y 1, by ext i; fin_cases i <;> rfl⟩
  pointwise [one]
  simp only [Fin.sum_univ_one]

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0) = one (m ((c.tc : Thread nD τ).loc main_arg0))
      ∧ r.2.mem ((c.tc : Thread nD τ).loc main_v24) = change (m ((c.tc : Thread nD τ).loc main_arg1)) (m ((c.tc : Thread nD τ).loc main_arg2)) (m ((c.tc : Thread nD τ).loc main_arg3)) (one (m ((c.tc : Thread nD τ).loc main_arg0)))
      ∧ r.2.mem ((c.tc : Thread nD τ).loc main_v5) = newM (m ((c.tc : Thread nD τ).loc main_arg2)) (one (m ((c.tc : Thread nD τ).loc main_arg0)))
      ∧ r.2.mem ((c.tc : Thread nD τ).loc main_v11) = newV (m ((c.tc : Thread nD τ).loc main_arg3)) (one (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m g)
  obtain ⟨h0, h1, h2, h3, h4⟩ := h c
  rw [sum_eq] at h0 h1 h2 h3
  exact ⟨h0, h1.trans rfl, h2.trans rfl, h3.trans rfl, h4⟩

end Cert.Reference7Ideal.Value

end
-- ==== Proof.Ada.lean ====
/-
  The modulation from the conditioning vectors, and the gradient of its weight: the calls and the references leave the same arrays.
-/
module

public import proofs.«01_k».proof.Proof.Spec
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 16384

noncomputable section

open Idealize.ShloMosaic Idealize.ShloMosaic.TcCoe Idealize.SL.Sem

namespace Cert.Ada

/-- `x` times its logistic. -/
def silu (x : EReal) : EReal := x * Ideal.logistic x

/-- The weight's gradient: the sum over the sixteen conditioning vectors. -/
def gradA (C : (⟨2, ![16, 1024]⟩ : Shape).Idx → EReal) (D : (⟨2, ![16, 384]⟩ : Shape).Idx → EReal) : (⟨2, ![1024, 384]⟩ : Shape).Idx → EReal := fun y =>
  ∑ r : Fin 16, silu (C (ix2 r (y 0))) * D (ix2 r (y 1))

/-- The modulation. -/
def modA (C : (⟨2, ![16, 1024]⟩ : Shape).Idx → EReal) (W : (⟨2, ![1024, 384]⟩ : Shape).Idx → EReal) (B : (⟨2, ![1, 384]⟩ : Shape).Idx → EReal) :
    (⟨2, ![16, 384]⟩ : Shape).Idx → EReal := fun y =>
  (∑ d : Fin 1024, silu (C (ix2 (y 0) d)) * W (ix2 d (y 1))) + B (ix2 0 (y 1))

theorem ex {n k : ℕ} (x : (⟨2, ![n, k]⟩ : Shape).Idx) : ∃ (a : Fin n) (b : Fin k), x = ix2 a b :=
  ⟨x 0, x 1, by funext i; fin_cases i <;> rfl⟩

end Cert.Ada

namespace Cert.Kernel8Ideal.Value

open Cert.Kernel8Ideal Cert.Kernel8Ideal.Gen Cert.Ada

theorem pay1 (C : Vec Ideal S16x1024 .f32) (D : Vec Ideal S16x384 .f32) : k0_pay1 (F := Ideal) C D = gradA C D := by
  funext y
  obtain ⟨a, b, rfl⟩ := ex y
  pointwise [k0_pay1, gradA, silu]

end Cert.Kernel8Ideal.Value

namespace Cert.Reference8Ideal.Value

open Cert.Reference8Ideal Cert.Reference8Ideal.Gen Cert.Ada

/-- The reference's gradient. -/
def gV (C : FVec Ideal S16x1024 .f32) (D : FVec Ideal S16x384 .f32) : FVec Ideal S1024x384 .f32 :=
  transpose S1024x384 [1, 0] (Host.dotGeneral dot_S16x384_S16x1024_S384x1024_0_0_1_1_n_n none D (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C)))))) transposes_S384x1024_S1024x384_1_0

theorem g_eq (C : FVec Ideal S16x1024 .f32) (D : FVec Ideal S16x384 .f32) : gV C D = gradA C D := by
  funext y
  obtain ⟨a, b, rfl⟩ := ex y
  pointwise [gV, gradA, silu]
  exact Finset.sum_congr rfl fun r _ => mul_comm _ _

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v7) = gV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (run m g)

end Cert.Reference8Ideal.Value

namespace Cert.Kernel9Ideal.Value

open Cert.Kernel9Ideal Cert.Kernel9Ideal.Gen Cert.Ada

variable (m : (ℓ : Loc nD τ sig) → Buf (Elt Ideal) ℓ) (c : Dev nD)

theorem pay1 (C : Vec Ideal S16x1024 .f32) (W : Vec Ideal S1024x384 .bf16) (B : Vec Ideal S1x384 .f32) : k0_pay1 (F := Ideal) C W B = modA C W B := by
  funext y
  obtain ⟨a, b, rfl⟩ := ex y
  pointwise [k0_pay1, modA, silu]

theorem hz : (![0, 0] : Fin 2 → ℕ) = fun _ => 0 := by funext i; fin_cases i <;> rfl

theorem idx : ∀ t : Fin cfg0.N,
    win0_0.index t = ![0, 0] ∧ win0_1.index t = ![0, 0] ∧ win0_2.index t = ![0, 0] ∧ win0_3.index t = ![0, 0] :=
  (by decide +kernel : ∀ t : Fin grid0.N, _)

set_option maxHeartbeats 6400000 in
theorem V_w (d : Fin 1024) (p : Fin 384) :
    (show EReal from V m c main_v0 (ix2 d p)) = m ((c.tc : Thread nD τ).loc main_arg1) (ix2 d p) := by
  unfold V
  simp only [List.flatten_cons, List.flatten_nil, List.append_nil]
  after_reads_at

theorem emb0 (t : Fin cfg0.N) (a : Fin 16) (d : Fin 1024) : (win0_0.blk t).view.emb (ix2 a d) = ix2 a d := by
  blk_ext [idx t]

theorem emb1 (t : Fin cfg0.N) (d : Fin 1024) (p : Fin 384) : (win0_1.blk t).view.emb (ix2 d p) = ix2 d p := by
  blk_ext [idx t]

theorem emb2 (t : Fin cfg0.N) (p : Fin 384) : (win0_2.blk t).view.emb (ix2 0 p) = ix2 0 p := by
  blk_ext [idx t]

theorem emb3 (t : Fin cfg0.N) (a : Fin 16) (p : Fin 384) : (win0_3.blk t).view.emb (ix2 a p) = ix2 a p := by
  blk_ext [idx t]

theorem blk0 (t : Fin cfg0.N) (a : Fin 16) (d : Fin 1024) :
    (show EReal from iblk m c 0 t (ix2 a d)) = m ((c.tc : Thread nD τ).loc main_arg0) (ix2 a d) := by
  blk_simp [iblk]
  rw [emb0, V_main_arg0]

theorem blk1 (t : Fin cfg0.N) (d : Fin 1024) (p : Fin 384) :
    (show EReal from iblk m c 1 t (ix2 d p)) = m ((c.tc : Thread nD τ).loc main_arg1) (ix2 d p) := by
  blk_simp [iblk]
  rw [emb1]
  exact V_w m c d p

theorem blk2 (t : Fin cfg0.N) (p : Fin 384) :
    (show EReal from iblk m c 2 t (ix2 0 p)) = m ((c.tc : Thread nD τ).loc main_arg2) (ix2 0 p) := by
  blk_simp [iblk]
  rw [emb2, V_main_arg2]

theorem arr3 : (dats m 0 c).arrAt 3 cfg0.N =
    modA (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  rw [after0_3, out0_3, View.canon_unit_zero hz, View.ld_unit_zero (S := S16x1024) hz, View.ld_unit_zero (S := S1024x384) hz, View.ld_unit_zero (S := S1x384) hz, pay1]
  blk_simp
  obtain ⟨a, p, rfl⟩ : ∃ (a : Fin 16) (p : Fin 384), y = ix2 a p := ex y
  rw [emb3]
  exact congrArg₂ (· + ·) (Finset.sum_congr rfl fun d _ => congrArg₂ (· * ·) (congrArg silu (blk0 m c t a d)) (blk1 m c t d p)) (blk2 m c t p)

end Cert.Kernel9Ideal.Value

namespace Cert.Reference9Ideal.Value

open Cert.Reference9Ideal Cert.Reference9Ideal.Gen Cert.Ada

/-- The reference's modulation. -/
def mV (C : FVec Ideal S16x1024 .f32) (W : FVec Ideal S1024x384 .f32) (B : FVec Ideal S1x384 .f32) : FVec Ideal S16x384 .f32 :=
  addf (Host.dotGeneral dot_S16x1024_S1024x384_S16x384_1_0_0_1_n_n none (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))) W) (broadcastInDim S16x384 ![0, 1] bcast_S1x384_S16x384_0_1 B)

theorem m_eq (C : FVec Ideal S16x1024 .f32) (W : FVec Ideal S1024x384 .f32) (B : FVec Ideal S1x384 .f32) : mV C W B = modA C W B := by
  funext y
  obtain ⟨a, b, rfl⟩ := ex y
  pointwise [mV, modA, silu]
  rfl

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v3) = mV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (run m g)

end Cert.Reference9Ideal.Value

end
-- ==== Proof.AdamEq.lean ====
/-
  AdamW and the modulation: the programs' results are the same arrays.
-/
module

public import proofs.«01_k».proof.Defs
public import proofs.«01_k».proof.Proof.AdamIn
public import proofs.«01_k».proof.Proof.AdamOut
public import proofs.«01_k».proof.Proof.AdamAda
public import proofs.«01_k».proof.Proof.Ada
public import Idealize.ShloMosaic.Lib.Claim

@[expose] public section

set_option maxRecDepth 16384

noncomputable section

open Idealize.ShloMosaic Idealize.ShloMosaic.TcCoe Idealize.SL.Sem

namespace Cert.Proof

set_option maxHeartbeats 1600000 in
theorem algebraic_adam_in : Cert.algebraic_Kernel5Ideal_Reference5Ideal := by
  pair_intro
  · run_from Cert.Kernel5Ideal.Value.run_adam m g
  · run_from Cert.Reference5Ideal.Value.staged m' g'

theorem frame_reference_adam_in : Cert.quiescent_Reference5Ideal := by
  intro m g _
  hlo_run
  · exact fun _ => ⟨trivial, trivial, trivial, trivial⟩
  exact Idealize.ShloMosaic.sem_eq_zero_of_no_sems (sig := Cert.Reference5Ideal.sig) (by decide) _

set_option maxHeartbeats 1600000 in
theorem algebraic_adam_out : Cert.algebraic_Kernel6Ideal_Reference6Ideal := by
  pair_intro
  · run_from Cert.Kernel6Ideal.Value.run_adam m g
  · run_from Cert.Reference6Ideal.Value.staged m' g'

theorem frame_reference_adam_out : Cert.quiescent_Reference6Ideal := by
  intro m g _
  hlo_run
  · exact fun _ => ⟨trivial, trivial, trivial, trivial⟩
  exact Idealize.ShloMosaic.sem_eq_zero_of_no_sems (sig := Cert.Reference6Ideal.sig) (by decide) _

set_option maxHeartbeats 1600000 in
theorem algebraic_adam_ada : Cert.algebraic_Kernel7Ideal_Reference7Ideal := by
  pair_intro
  · run_from Cert.Kernel7Ideal.Value.run_adam m g
  · run_from Cert.Reference7Ideal.Value.staged m' g'

theorem frame_reference_adam_ada : Cert.quiescent_Reference7Ideal := by
  intro m g _
  hlo_run
  · exact fun _ => ⟨trivial, trivial, trivial, trivial⟩
  exact Idealize.ShloMosaic.sem_eq_zero_of_no_sems (sig := Cert.Reference7Ideal.sig) (by decide) _

theorem eq_grad_ada (m : (ℓ : Loc Cert.Kernel8Ideal.nD Cert.Kernel8Ideal.τ Cert.Kernel8Ideal.sig) → Buf (Elt Ideal) ℓ) (c : Dev Cert.Kernel8Ideal.nD) :
    Cert.Reference8Ideal.Value.gV (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      = Cert.Kernel8Ideal.Value.G2 (F := Ideal) (m ((c.tc : Thread Cert.Kernel8Ideal.nD Cert.Kernel8Ideal.τ).loc Cert.Kernel8Ideal.main_arg0))
        (m ((c.tc : Thread Cert.Kernel8Ideal.nD Cert.Kernel8Ideal.τ).loc Cert.Kernel8Ideal.main_arg1)) :=
  (Cert.Reference8Ideal.Value.g_eq _ _).trans (Cert.Kernel8Ideal.Value.pay1 _ _).symm

set_option maxHeartbeats 1600000 in
theorem algebraic_grad_ada : Cert.algebraic_Kernel8Ideal_Reference8Ideal := by
  pair_intro
  · run_from Cert.Kernel8Ideal.Value.run (F := Ideal) m g
  · run_from Cert.Reference8Ideal.Value.staged m' g'
    exact eq_grad_ada m c

theorem frame_reference_grad_ada : Cert.quiescent_Reference8Ideal := by
  intro m g _
  hlo_run
  · exact fun _ => ⟨trivial, trivial⟩
  exact Idealize.ShloMosaic.sem_eq_zero_of_no_sems (sig := Cert.Reference8Ideal.sig) (by decide) _

theorem eq_mod (m : (ℓ : Loc Cert.Kernel9Ideal.nD Cert.Kernel9Ideal.τ Cert.Kernel9Ideal.sig) → Buf (Elt Ideal) ℓ) (c : Dev Cert.Kernel9Ideal.nD) :
    Cert.Reference9Ideal.Value.mV (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      = (Cert.Kernel9Ideal.Gen.dats m 0 c).arrAt 3 Cert.Kernel9Ideal.cfg0.N :=
  (Cert.Reference9Ideal.Value.m_eq _ _ _).trans (Cert.Kernel9Ideal.Value.arr3 m c).symm

set_option maxHeartbeats 1600000 in
theorem algebraic_mod : Cert.algebraic_Kernel9Ideal_Reference9Ideal := by
  pair_intro
  · run_from Cert.Kernel9Ideal.Value.run_blocks m g
  · run_from Cert.Reference9Ideal.Value.staged m' g'
    exact eq_mod m c

theorem frame_reference_mod : Cert.quiescent_Reference9Ideal := by
  intro m g _
  hlo_run
  · exact fun _ => ⟨trivial, trivial, trivial⟩
  exact Idealize.ShloMosaic.sem_eq_zero_of_no_sems (sig := Cert.Reference9Ideal.sig) (by decide) _

end Cert.Proof

end
-- ==== Proof.Shift.lean ====
/-
  The token shift: the arrays its call writes and the reference's, read at an index.
-/
module

public import proofs.«01_k».proof.Proof.Spec
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Att

/-- The shift of two stacked sequences of 2048 rows: each row from the one before, itself and the one after, a sequence's
ends seeing zeros. -/
def sh (x : S4096x1664.Idx → EReal) (u0 u1 u2 : Fin 1664 → EReal) : S4096x1664.Idx → EReal := fun y =>
  u0 (y 1) * (if h : (y 0).val % 2048 = 0 then 0 else x (ix2 ⟨(y 0).val - 1, by have : (y 0).val < 4096 := (y 0).isLt; omega⟩ (y 1))) + u1 (y 1) * x y
    + u2 (y 1) * (if h : (y 0).val % 2048 = 2047 then 0 else x (ix2 ⟨(y 0).val + 1, by have : (y 0).val < 4096 := (y 0).isLt; omega⟩ (y 1)))

variable (m : (ℓ : Loc nD τ sig) → Buf (Elt Ideal) ℓ) (c : Dev nD)

theorem idx : ∀ t : Fin cfg0.N,
    win0_0.index t = ![(t : ℕ), 0] ∧ win0_1.index t = ![64 * (t : ℕ) - 1, 0] ∧ win0_2.index t = ![min (64 * ((t : ℕ) + 1)) 511, 0] ∧ win0_3.index t = ![0, 0]
      ∧ win0_4.index t = ![(t : ℕ), 0] :=
  (by decide +kernel : ∀ t : Fin grid0.N, _)

theorem lt8 (t : Fin cfg0.N) : (t : ℕ) < 8 := lt_of_lt_of_eq t.isLt (show cfg0.N = 8 from N_0)

/-- The point's place among the tiles of its sequence, as the body computes it. -/
def place (n : BitVec 32) : BitVec 32 :=
  let v17 : BitVec 32 := Scalar.select (Scalar.cmpi .eq 4#32 0#32) 1#32 4#32
  let v18 : BitVec 32 := Scalar.remsi n v17
  Scalar.select (Scalar.andi (Scalar.xori (Scalar.cmpi .slt v18 0#32) (Scalar.cmpi .slt v17 0#32)) (Scalar.cmpi .ne v18 0#32)) (Scalar.addi v18 v17) v18

theorem last_bits : ∀ t : Fin cfg0.N, Scalar.cmpi .eq (place (BitVec.ofNat 32 (grid0.coords t 0).val)) 3#32 = if (t : ℕ) % 4 = 3 then 1#1 else 0#1 :=
  (by decide +kernel : ∀ t : Fin grid0.N, _)

theorem first_bits : ∀ t : Fin cfg0.N, Scalar.cmpi .eq (place (BitVec.ofNat 32 (grid0.coords t 0).val)) 0#32 = if (t : ℕ) % 4 = 0 then 1#1 else 0#1 :=
  (by decide +kernel : ∀ t : Fin grid0.N, _)

theorem pay2_at (t : Fin cfg0.N) : (k0_pay2 (F := Ideal) (grid0.coords t) : EReal) = if (t : ℕ) % 4 = 3 then 0 else 1 := by
  have h : k0_pay2 (F := Ideal) (grid0.coords t) = Scalar.select (Scalar.cmpi .eq (place (BitVec.ofNat 32 (grid0.coords t 0).val)) 3#32) (Scalar.ofBits (F := Ideal) .f32 0x00000000#32) (Scalar.ofBits (F := Ideal) .f32 0x3F800000#32) := rfl
  rw [h, last_bits]
  by_cases h3 : (t : ℕ) % 4 = 3
  · simp only [h3, if_true]
    exact Ideal.ofBits_zero_f32
  · simp only [h3, if_false]
    exact Ideal.ofBits_one_f32

theorem pay4_at (t : Fin cfg0.N) (p : Vec Ideal S8x1664 .f32) (l : Fin 1664) :
    k0_pay4 (F := Ideal) (grid0.coords t) p (ix2 0 l) = p (ix2 7 l) * (if (t : ℕ) % 4 = 0 then 0 else 1 : EReal) := by
  have h : k0_pay4 (F := Ideal) (grid0.coords t) p = mulf (extractStridedSlice S1x1664 ![7, 0] p slices_S8x1664_o7_0_S1x1664) (broadcast S1x1664 (Scalar.select (Scalar.cmpi .eq (place (BitVec.ofNat 32 (grid0.coords t 0).val)) 0#32) (Scalar.ofBits (F := Ideal) .f32 0x00000000#32) (Scalar.ofBits (F := Ideal) .f32 0x3F800000#32))) := rfl
  rw [h, first_bits]
  by_cases h3 : (t : ℕ) % 4 = 0
  · simp only [h3, if_true]
    pointwise []
  · simp only [h3, if_false]
    pointwise []

theorem zero_bits : ∀ a : Fin 512, IntOp.cmpi CmpIPredicate.eq (BitVec.ofNat 32 (a : ℕ)) 0#32 = if (a : ℕ) = 0 then 1#1 else 0#1 := by decide +kernel

theorem end_bits : ∀ a : Fin 512, IntOp.cmpi CmpIPredicate.eq (BitVec.ofNat 32 (a : ℕ)) 511#32 = if (a : ℕ) = 511 then 1#1 else 0#1 := by decide +kernel

theorem pay5_at (v0 : Vec Ideal S512x1664 .f32) (v2 : Vec Ideal S8x1664 .f32) (z : Ideal .f32) (p t0 t1 t2 : FVec Ideal S1x1664 .f32) (a : Fin 512) (l : Fin 1664) :
    k0_pay5 (F := Ideal) v0 v2 (iota .tc S512x1 32 [0] iota_S512x1_d0_w32) z k0_pay3 p 1#32 t0 t1 t2 (ix2 a l)
      = t0 (ix2 0 l) * (if (a : ℕ) = 0 then p (ix2 0 l) else v0 (ix2 ⟨(a + 511) % 512, Nat.mod_lt _ (by omega)⟩ l)) + t1 (ix2 0 l) * v0 (ix2 a l)
        + t2 (ix2 0 l) * (if (a : ℕ) = 511 then v2 (ix2 0 l) * z else v0 (ix2 ⟨(a + 1) % 512, Nat.mod_lt _ (by omega)⟩ l)) := by
  pointwise [k0_pay5, k0_pay3]
  rw [zero_bits a, end_bits a]
  have e1 : (a : ℕ) + 512 - 1 = a + 511 := by omega
  have e2 : (a : ℕ) + 512 - 511 = a + 1 := by omega
  simp only [e1, e2]
  by_cases h0 : (a : ℕ) = 0
  · have h5 : ¬ (a : ℕ) = 511 := by omega
    simp only [h0, h5, if_true, if_false]
    rfl
  · by_cases h5 : (a : ℕ) = 511
    · simp only [h0, h5, if_true, if_false]
      rfl
    · simp only [h0, h5, if_false]
      rfl

theorem emb0 (t : Fin cfg0.N) (a : Fin 512) (l : Fin 1664) : (win0_0.blk t).view.emb (ix2 a l) = ix2 ⟨512 * t + a, by have := lt8 t; omega⟩ l := by
  blk_ext [idx t]

theorem emb1 (t : Fin cfg0.N) (l : Fin 1664) : (win0_1.blk t).view.emb (ix2 7 l) = ix2 ⟨8 * (64 * t - 1) + 7, by have := lt8 t; omega⟩ l := by
  blk_ext [idx t]

theorem emb2 (t : Fin cfg0.N) (l : Fin 1664) : (win0_2.blk t).view.emb (ix2 0 l) = ix2 ⟨8 * min (64 * ((t : ℕ) + 1)) 511, by have := lt8 t; omega⟩ l := by
  blk_ext [idx t]

theorem emb3 (t : Fin cfg0.N) (k : Fin 8) (l : Fin 1664) : (win0_3.blk t).view.emb (ix2 k l) = ix2 k l := by
  blk_ext [idx t]

theorem emb4 (t : Fin cfg0.N) (a : Fin 512) (l : Fin 1664) : (win0_4.blk t).view.emb (ix2 a l) = ix2 ⟨512 * t + a, by have := lt8 t; omega⟩ l := by
  blk_ext [idx t]

theorem before_at (x : S4096x1664.Idx → EReal) (t : Fin cfg0.N) (a : Fin 512) (l : Fin 1664) :
    (if (a : ℕ) = 0 then x ((win0_1.blk t).view.emb (ix2 7 l)) * (if (t : ℕ) % 4 = 0 then 0 else 1 : EReal)
        else x ((win0_0.blk t).view.emb (ix2 ⟨(a + 511) % 512, Nat.mod_lt _ (by omega)⟩ l)))
      = if h : (512 * (t : ℕ) + a) % 2048 = 0 then 0 else x (ix2 ⟨512 * t + a - 1, by have := lt8 t; omega⟩ l) := by
  have ht := lt8 t
  rw [emb0, emb1]
  by_cases h0 : (a : ℕ) = 0
  · by_cases h4 : (t : ℕ) % 4 = 0
    · rw [if_pos h0, if_pos h4, dif_pos (by omega), mul_zero]
    · rw [if_pos h0, if_neg h4, dif_neg (by omega), mul_one]
      congr 2
      exact Fin.ext (by show 8 * (64 * (t : ℕ) - 1) + 7 = 512 * t + a - 1; omega)
  · rw [if_neg h0, dif_neg (by omega)]
    congr 2
    exact Fin.ext (by show 512 * (t : ℕ) + (a + 511) % 512 = 512 * t + a - 1; omega)

theorem after_at (x : S4096x1664.Idx → EReal) (t : Fin cfg0.N) (a : Fin 512) (l : Fin 1664) :
    (if (a : ℕ) = 511 then x ((win0_2.blk t).view.emb (ix2 0 l)) * (if (t : ℕ) % 4 = 3 then 0 else 1 : EReal)
        else x ((win0_0.blk t).view.emb (ix2 ⟨(a + 1) % 512, Nat.mod_lt _ (by omega)⟩ l)))
      = if h : (512 * (t : ℕ) + a) % 2048 = 2047 then 0 else x (ix2 ⟨512 * t + a + 1, by have := lt8 t; omega⟩ l) := by
  have ht := lt8 t
  rw [emb0, emb2]
  by_cases h0 : (a : ℕ) = 511
  · by_cases h4 : (t : ℕ) % 4 = 3
    · rw [if_pos h0, if_pos h4, dif_pos (by omega), mul_zero]
    · rw [if_pos h0, if_neg h4, dif_neg (by omega), mul_one]
      congr 2
      exact Fin.ext (by show 8 * min (64 * ((t : ℕ) + 1)) 511 = 512 * t + a + 1; omega)
  · rw [if_neg h0, dif_neg (by omega)]
    congr 2
    exact Fin.ext (by show 512 * (t : ℕ) + (a + 1) % 512 = 512 * t + a + 1; omega)

theorem ldT0 (x : Vec Ideal S8x1664 .f32) (l : Fin 1664) : View.ld x r0_2 (ix2 0 l) = x (ix2 0 l) := by
  refine congrArg x ?_
  ext i; fin_cases i <;> simp [r0_2, Rect.unit] <;> rfl

theorem ldT1 (x : Vec Ideal S8x1664 .f32) (l : Fin 1664) : View.ld x r0_3 (ix2 0 l) = x (ix2 1 l) := by
  refine congrArg x ?_
  ext i; fin_cases i <;> simp [r0_3, Rect.unit] <;> rfl

theorem ldT2 (x : Vec Ideal S8x1664 .f32) (l : Fin 1664) : View.ld x r0_4 (ix2 0 l) = x (ix2 2 l) := by
  refine congrArg x ?_
  ext i; fin_cases i <;> simp [r0_4, Rect.unit] <;> rfl

/-- The shifted rows, from the call's blocks. -/
theorem out4_at (t : Fin cfg0.N) (x : S4096x1664.Idx → EReal) (u : S8x1664.Idx → EReal) (x0 : Vec Ideal S512x1664 .f32) (x1 x2 x3 : Vec Ideal S8x1664 .f32)
    (h0 : ∀ j, x0 j = x ((win0_0.blk t).view.emb j)) (h1 : ∀ j, x1 j = x ((win0_1.blk t).view.emb j)) (h2 : ∀ j, x2 j = x ((win0_2.blk t).view.emb j))
    (h3 : ∀ j, x3 j = u ((win0_3.blk t).view.emb j)) (a : Fin 512) (l : Fin 1664) :
    out0_4 (F := Ideal) (grid0.coords t) x0 x1 x2 x3 (ix2 a l)
      = sh x (fun l => u (ix2 0 l)) (fun l => u (ix2 1 l)) (fun l => u (ix2 2 l)) (ix2 ⟨512 * t + a, by have := lt8 t; omega⟩ l) := by
  unfold out0_4 k0_pay22 k0_pay23 k0_pay24
  rw [View.canon_unit_zero (by decide), View.ld_unit_zero (S := S512x1664) (by decide), View.ld_unit_zero (S := S8x1664) (by decide),
    View.ld_unit_zero (S := S8x1664) (by decide), pay5_at, pay2_at, pay4_at, h1, h2, h0, h0, h0, before_at, after_at, ldT0, ldT1, ldT2, h3, h3, h3, emb0, emb3,
    emb3, emb3]
  rfl

theorem blk0 (t : Fin cfg0.N) (j) : (show EReal from iblk m c 0 t j) = m ((c.tc : Thread nD τ).loc main_arg0) ((win0_0.blk t).view.emb j) := by
  blk_simp [iblk]

theorem blk1 (t : Fin cfg0.N) (j) : (show EReal from iblk m c 1 t j) = m ((c.tc : Thread nD τ).loc main_arg0) ((win0_1.blk t).view.emb j) := by
  blk_simp [iblk]

theorem blk2 (t : Fin cfg0.N) (j) : (show EReal from iblk m c 2 t j) = m ((c.tc : Thread nD τ).loc main_arg0) ((win0_2.blk t).view.emb j) := by
  blk_simp [iblk]

theorem blk3 (t : Fin cfg0.N) (j) : (show EReal from iblk m c 3 t j) = m ((c.tc : Thread nD τ).loc main_arg1) ((win0_3.blk t).view.emb j) := by
  blk_simp [iblk]

/-- What the call leaves for the shifted rows. -/
theorem arr4 : (dats m 0 c).arrAt 4 cfg0.N = sh (m ((c.tc : Thread nD τ).loc main_arg0)) (fun l => m ((c.tc : Thread nD τ).loc main_arg1) (ix2 0 l))
    (fun l => m ((c.tc : Thread nD τ).loc main_arg1) (ix2 1 l)) (fun l => m ((c.tc : Thread nD τ).loc main_arg1) (ix2 2 l)) := by
  refine (dats m 0 c).arrAt_eq_of_covers 4 _ (by decide +kernel) fun t hf y => ?_
  rw [after0_4]
  blk_simp
  obtain ⟨a, l, rfl⟩ : ∃ (a : Fin 512) (l : Fin 1664), y = ix2 a l := ⟨y 0, y 1, by ext i; fin_cases i <;> rfl⟩
  rw [emb4]
  generalize hw0 : iblk m c 0 t = w0
  generalize hw1 : iblk m c 1 t = w1
  generalize hw2 : iblk m c 2 t = w2
  generalize hw3 : iblk m c 3 t = w3
  exact out4_at t _ _ w0 w1 w2 w3 (fun j => hw0 ▸ blk0 m c t j) (fun j => hw1 ▸ blk1 m c t j) (fun j => hw2 ▸ blk2 m c t j) (fun j => hw3 ▸ blk3 m c t j) a l

end Cert.Kernel10Ideal.Value

namespace Cert.Reference10Ideal.Value

open Cert.Reference10Ideal Cert.Reference10Ideal.Gen
open Cert.Kernel10Ideal.Value (sh)

/-- A row of zeros for each sequence. -/
def zeros : FVec Ideal S2x1x1664 .f32 :=
  broadcastInDim S2x1x1664 ![] bcast_S_S2x1x1664 (constant S_ .f32 0x00000000#32 : FVec Ideal S_ .f32)

/-- The sequences with a row of zeros before and after. -/
def padded (x : FVec Ideal S4096x1664 .f32) : FVec Ideal S2x2050x1664 .f32 :=
  concatenate S2x2050x1664 1 [⟨S2x1x1664, zeros⟩, ⟨S2x2048x1664, shapeCast S2x2048x1664 x shapeCasts_S4096x1664_S2x2048x1664⟩, ⟨S2x1x1664, zeros⟩]
    concatenates_S2x1x1664_S2x2048x1664_S2x1x1664_S2x2050x1664_d1

/-- The array the reference returns. -/
def shR (x : FVec Ideal S4096x1664 .f32) (u : FVec Ideal S8x1664 .f32) : FVec Ideal S4096x1664 .f32 :=
  shapeCast _ (addf (addf (mulf (broadcastInDim S2x2048x1664 ![0, 1, 2] bcast_S1x1x1664_S2x2048x1664_0_1_2 (broadcastInDim S1x1x1664 ![2] bcast_S1664_S1x1x1664_2 (shapeCast _ (extractStridedSlice S1x1664 ![0, 0] u slices_S8x1664_S1x1664_0_0) shapeCasts_S1x1664_S1664))) (extractStridedSlice S2x2048x1664 ![0, 0, 0] (padded x) slices_S2x2050x1664_S2x2048x1664_0_0_0)) (mulf (broadcastInDim S2x2048x1664 ![0, 1, 2] bcast_S1x1x1664_S2x2048x1664_0_1_2 (broadcastInDim S1x1x1664 ![2] bcast_S1664_S1x1x1664_2 (shapeCast _ (extractStridedSlice S1x1664 ![1, 0] u slices_S8x1664_S1x1664_1_0) shapeCasts_S1x1664_S1664))) (extractStridedSlice S2x2048x1664 ![0, 1, 0] (padded x) slices_S2x2050x1664_S2x2048x1664_0_1_0))) (mulf (broadcastInDim S2x2048x1664 ![0, 1, 2] bcast_S1x1x1664_S2x2048x1664_0_1_2 (broadcastInDim S1x1x1664 ![2] bcast_S1664_S1x1x1664_2 (shapeCast _ (extractStridedSlice S1x1664 ![2, 0] u slices_S8x1664_S1x1664_2_0) shapeCasts_S1x1664_S1664))) (extractStridedSlice S2x2048x1664 ![0, 2, 0] (padded x) slices_S2x2050x1664_S2x2048x1664_0_2_0))) shapeCasts_S2x2048x1664_S4096x1664

theorem padded_at (x : FVec Ideal S4096x1664 .f32) (b : Fin 2) (r : Fin 2050) (l : Fin 1664) :
    padded x (ix3 b r l) = if h : 1 ≤ (r : ℕ) ∧ (r : ℕ) ≤ 2048 then x (ix2 ⟨2048 * b + (r - 1), by omega⟩ l) else 0 := by
  have hb := b.isLt
  have hr := r.isLt
  pointwise [padded, zeros]
  by_cases h1 : (r : ℕ) < 1
  · rw [dif_pos h1, dif_neg (by omega)]
  · rw [dif_neg h1]
    by_cases h2 : (r : ℕ) - 1 < 2048
    · rw [dif_pos h2, dif_pos (by omega)]
      congr 2
      exact Fin.ext (by show (b : ℕ) * 2048 + (r - 1) = 2048 * (b : ℕ) + (r - 1); omega)
    · rw [dif_neg h2, dif_neg (by omega)]

theorem shR_at (x : FVec Ideal S4096x1664 .f32) (u : FVec Ideal S8x1664 .f32) (r : Fin 4096) (l : Fin 1664) :
    shR x u (ix2 r l) = sh x (fun l => u (ix2 0 l)) (fun l => u (ix2 1 l)) (fun l => u (ix2 2 l)) (ix2 r l) := by
  have hr := r.isLt
  pointwise [shR, sh]
  rw [padded_at, padded_at, padded_at]
  have e0 : (r : ℕ) / 2048 * 2048 + r % 2048 = r := by omega
  refine congrArg₂ (· + ·) (congrArg₂ (· + ·) (congrArg _ ?_) (congrArg _ ?_)) (congrArg _ ?_)
  · by_cases h : (r : ℕ) % 2048 = 0
    · rw [dif_pos h, dif_neg (by show ¬ (1 ≤ (r : ℕ) % 2048 ∧ _); omega)]
    · rw [dif_neg h, dif_pos (by show 1 ≤ (r : ℕ) % 2048 ∧ (r : ℕ) % 2048 ≤ 2048; omega)]
      congr 2
      exact Fin.ext (by show 2048 * ((r : ℕ) / 2048) + (r % 2048 - 1) = r - 1; omega)
  · rw [dif_pos (by show 1 ≤ 1 + (r : ℕ) % 2048 ∧ 1 + (r : ℕ) % 2048 ≤ 2048; omega)]
    congr 2
    exact Fin.ext (by show 2048 * ((r : ℕ) / 2048) + (1 + r % 2048 - 1) = r; omega)
  · by_cases h : (r : ℕ) % 2048 = 2047
    · rw [dif_pos h, dif_neg (by show ¬ (1 ≤ 2 + (r : ℕ) % 2048 ∧ 2 + (r : ℕ) % 2048 ≤ 2048); omega)]
    · rw [dif_neg h, dif_pos (by show 1 ≤ 2 + (r : ℕ) % 2048 ∧ 2 + (r : ℕ) % 2048 ≤ 2048; omega)]
      congr 2
      exact Fin.ext (by show 2048 * ((r : ℕ) / 2048) + (2 + r % 2048 - 1) = r + 1; omega)

theorem shR_eq (x : FVec Ideal S4096x1664 .f32) (u : FVec Ideal S8x1664 .f32) :
    shR x u = sh x (fun l => u (ix2 0 l)) (fun l => u (ix2 1 l)) (fun l => u (ix2 2 l)) := by
  funext y
  obtain ⟨a, b, rfl⟩ : ∃ (a : Fin 4096) (b : Fin 1664), y = ix2 a b := ⟨y 0, y 1, by ext i; fin_cases i <;> rfl⟩
  exact shR_at x u a b

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v24) = shR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (run m g)

end Cert.Reference10Ideal.Value

end
-- ==== Proof.ShiftB.lean ====
/-
  The gradient of the token shift to its input: the array its call writes and the reference's, read at an index. It is the shift of the
  result's gradient, with the taps before and after changing places.
-/
module

public import proofs.«01_k».proof.Proof.Shift
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel11Ideal.Value

open Cert.Kernel11Ideal Cert.Kernel11Ideal.Gen Cert.Att
open Cert.Kernel10Ideal.Value (sh zero_bits end_bits place)

variable (m : (ℓ : Loc nD τ sig) → Buf (Elt Ideal) ℓ) (c : Dev nD)

theorem idx : ∀ t : Fin cfg0.N,
    win0_3.index t = ![(t : ℕ), 0] ∧ win0_4.index t = ![64 * (t : ℕ) - 1, 0] ∧ win0_5.index t = ![min (64 * ((t : ℕ) + 1)) 511, 0] ∧ win0_6.index t = ![0, 0]
      ∧ win0_7.index t = ![(t : ℕ), 0] :=
  (by decide +kernel : ∀ t : Fin grid0.N, _)

theorem lt8 (t : Fin cfg0.N) : (t : ℕ) < 8 := lt_of_lt_of_eq t.isLt (show cfg0.N = 8 from N_0)

theorem last_bits : ∀ t : Fin cfg0.N, Scalar.cmpi .eq (place (BitVec.ofNat 32 (grid0.coords t 0).val)) 3#32 = if (t : ℕ) % 4 = 3 then 1#1 else 0#1 :=
  (by decide +kernel : ∀ t : Fin grid0.N, _)

theorem first_bits : ∀ t : Fin cfg0.N, Scalar.cmpi .eq (place (BitVec.ofNat 32 (grid0.coords t 0).val)) 0#32 = if (t : ℕ) % 4 = 0 then 1#1 else 0#1 :=
  (by decide +kernel : ∀ t : Fin grid0.N, _)

theorem pay6_at (t : Fin cfg0.N) : (k0_pay6 (F := Ideal) (grid0.coords t) : EReal) = if (t : ℕ) % 4 = 3 then 0 else 1 := by
  have h : k0_pay6 (F := Ideal) (grid0.coords t) = Scalar.select (Scalar.cmpi .eq (place (BitVec.ofNat 32 (grid0.coords t 0).val)) 3#32) (Scalar.ofBits (F := Ideal) .f32 0x00000000#32) (Scalar.ofBits (F := Ideal) .f32 0x3F800000#32) := rfl
  rw [h, last_bits]
  by_cases h3 : (t : ℕ) % 4 = 3
  · simp only [h3, if_true]
    exact Ideal.ofBits_zero_f32
  · simp only [h3, if_false]
    exact Ideal.ofBits_one_f32

theorem pay5_at (t : Fin cfg0.N) : (k0_pay5 (F := Ideal) (grid0.coords t) : EReal) = if (t : ℕ) % 4 = 0 then 0 else 1 := by
  have h : k0_pay5 (F := Ideal) (grid0.coords t) = Scalar.select (Scalar.cmpi .eq (place (BitVec.ofNat 32 (grid0.coords t 0).val)) 0#32) (Scalar.ofBits (F := Ideal) .f32 0x00000000#32) (Scalar.ofBits (F := Ideal) .f32 0x3F800000#32) := rfl
  rw [h, first_bits]
  by_cases h3 : (t : ℕ) % 4 = 0
  · simp only [h3, if_true]
    exact Ideal.ofBits_zero_f32
  · simp only [h3, if_false]
    exact Ideal.ofBits_one_f32

theorem pay9_at (v0 : Vec Ideal S512x1664 .f32) (v1 v2 : Vec Ideal S8x1664 .f32) (w z : Ideal .f32) (t0 t1 t2 : FVec Ideal S1x1664 .f32) (a : Fin 512) (l : Fin 1664) :
    k0_pay9 (F := Ideal) v0 v2 (iota .tc S512x1 32 [0] iota_S512x1_d0_w32) w z k0_pay7 (k0_pay8 v1) t0 t1 t2 (ix2 a l)
      = t0 (ix2 0 l) * (if (a : ℕ) = 0 then v1 (ix2 7 l) * w else v0 (ix2 ⟨(a + 511) % 512, Nat.mod_lt _ (by omega)⟩ l)) + t1 (ix2 0 l) * v0 (ix2 a l)
        + t2 (ix2 0 l) * (if (a : ℕ) = 511 then v2 (ix2 0 l) * z else v0 (ix2 ⟨(a + 1) % 512, Nat.mod_lt _ (by omega)⟩ l)) := by
  pointwise [k0_pay9, k0_pay7, k0_pay8]
  rw [zero_bits a, end_bits a]
  have e1 : (a : ℕ) + 512 - 1 = a + 511 := by omega
  have e2 : (a : ℕ) + 512 - 511 = a + 1 := by omega
  simp only [e1, e2]
  by_cases h0 : (a : ℕ) = 0
  · have h5 : ¬ (a : ℕ) = 511 := by omega
    simp only [h0, h5, if_true, if_false]
    rfl
  · by_cases h5 : (a : ℕ) = 511
    · simp only [h0, h5, if_true, if_false]
      rfl
    · simp only [h0, h5, if_false]
      rfl

theorem emb0 (t : Fin cfg0.N) (a : Fin 512) (l : Fin 1664) : (win0_3.blk t).view.emb (ix2 a l) = ix2 ⟨512 * t + a, by have := lt8 t; omega⟩ l := by
  blk_ext [idx t]

theorem emb1 (t : Fin cfg0.N) (l : Fin 1664) : (win0_4.blk t).view.emb (ix2 7 l) = ix2 ⟨8 * (64 * t - 1) + 7, by have := lt8 t; omega⟩ l := by
  blk_ext [idx t]

theorem emb2 (t : Fin cfg0.N) (l : Fin 1664) : (win0_5.blk t).view.emb (ix2 0 l) = ix2 ⟨8 * min (64 * ((t : ℕ) + 1)) 511, by have := lt8 t; omega⟩ l := by
  blk_ext [idx t]

theorem emb3 (t : Fin cfg0.N) (k : Fin 8) (l : Fin 1664) : (win0_6.blk t).view.emb (ix2 k l) = ix2 k l := by
  blk_ext [idx t]

theorem emb4 (t : Fin cfg0.N) (a : Fin 512) (l : Fin 1664) : (win0_7.blk t).view.emb (ix2 a l) = ix2 ⟨512 * t + a, by have := lt8 t; omega⟩ l := by
  blk_ext [idx t]

theorem before_at (x : S4096x1664.Idx → EReal) (t : Fin cfg0.N) (a : Fin 512) (l : Fin 1664) :
    (if (a : ℕ) = 0 then x ((win0_4.blk t).view.emb (ix2 7 l)) * (if (t : ℕ) % 4 = 0 then 0 else 1 : EReal)
        else x ((win0_3.blk t).view.emb (ix2 ⟨(a + 511) % 512, Nat.mod_lt _ (by omega)⟩ l)))
      = if h : (512 * (t : ℕ) + a) % 2048 = 0 then 0 else x (ix2 ⟨512 * t + a - 1, by have := lt8 t; omega⟩ l) := by
  have ht := lt8 t
  rw [emb0, emb1]
  by_cases h0 : (a : ℕ) = 0
  · by_cases h4 : (t : ℕ) % 4 = 0
    · rw [if_pos h0, if_pos h4, dif_pos (by omega), mul_zero]
    · rw [if_pos h0, if_neg h4, dif_neg (by omega), mul_one]
      congr 2
      exact Fin.ext (by show 8 * (64 * (t : ℕ) - 1) + 7 = 512 * t + a - 1; omega)
  · rw [if_neg h0, dif_neg (by omega)]
    congr 2
    exact Fin.ext (by show 512 * (t : ℕ) + (a + 511) % 512 = 512 * t + a - 1; omega)

theorem after_at (x : S4096x1664.Idx → EReal) (t : Fin cfg0.N) (a : Fin 512) (l : Fin 1664) :
    (if (a : ℕ) = 511 then x ((win0_5.blk t).view.emb (ix2 0 l)) * (if (t : ℕ) % 4 = 3 then 0 else 1 : EReal)
        else x ((win0_3.blk t).view.emb (ix2 ⟨(a + 1) % 512, Nat.mod_lt _ (by omega)⟩ l)))
      = if h : (512 * (t : ℕ) + a) % 2048 = 2047 then 0 else x (ix2 ⟨512 * t + a + 1, by have := lt8 t; omega⟩ l) := by
  have ht := lt8 t
  rw [emb0, emb2]
  by_cases h0 : (a : ℕ) = 511
  · by_cases h4 : (t : ℕ) % 4 = 3
    · rw [if_pos h0, if_pos h4, dif_pos (by omega), mul_zero]
    · rw [if_pos h0, if_neg h4, dif_neg (by omega), mul_one]
      congr 2
      exact Fin.ext (by show 8 * min (64 * ((t : ℕ) + 1)) 511 = 512 * t + a + 1; omega)
  · rw [if_neg h0, dif_neg (by omega)]
    congr 2
    exact Fin.ext (by show 512 * (t : ℕ) + (a + 1) % 512 = 512 * t + a + 1; omega)

/-- A row of the taps' block. -/
abbrev row0 : Rect S8x1664 := Rect.unit (s := S8x1664) ![0, 0] S1x1664.size inb_S8x1664_S1x1664_0_0

/-- A row of the taps' block. -/
abbrev row1 : Rect S8x1664 := Rect.unit (s := S8x1664) ![1, 0] S1x1664.size inb_S8x1664_S1x1664_1_0

/-- A row of the taps' block. -/
abbrev row2 : Rect S8x1664 := Rect.unit (s := S8x1664) ![2, 0] S1x1664.size inb_S8x1664_S1x1664_2_0

theorem ldT0 (x : Vec Ideal S8x1664 .f32) (l : Fin 1664) : View.ld x row0 (ix2 0 l) = x (ix2 0 l) := by
  refine congrArg x ?_
  ext i; fin_cases i <;> simp [row0, Rect.unit] <;> rfl

theorem ldT1 (x : Vec Ideal S8x1664 .f32) (l : Fin 1664) : View.ld x row1 (ix2 0 l) = x (ix2 1 l) := by
  refine congrArg x ?_
  ext i; fin_cases i <;> simp [row1, Rect.unit] <;> rfl

theorem ldT2 (x : Vec Ideal S8x1664 .f32) (l : Fin 1664) : View.ld x row2 (ix2 0 l) = x (ix2 2 l) := by
  refine congrArg x ?_
  ext i; fin_cases i <;> simp [row2, Rect.unit] <;> rfl

/-- What a point leaves of the input's gradient. -/
theorem out7 (t : Fin cfg0.N) : (outsAt0 m c t.val t.isLt).1 =
    k0_pay9 (F := Ideal) (iblk m c 3 t) (iblk m c 5 t) (iota .tc S512x1 32 [0] iota_S512x1_d0_w32) (k0_pay5 (F := Ideal) (grid0.coords t)) (k0_pay6 (F := Ideal) (grid0.coords t))
      k0_pay7 (k0_pay8 (iblk m c 4 t)) (View.ld (iblk m c 6 t) row2) (View.ld (iblk m c 6 t) row1) (View.ld (iblk m c 6 t) row0) := by
  by_cases h : t.val % 8 = 0
  · rw [outsAt0_A m c t h]
    frame_out
    rfl
  · rw [outsAt0_B m c t h]
    frame_out
    rfl

/-- The gradient's rows, from the call's blocks. -/
theorem pay9_sh (t : Fin cfg0.N) (x : S4096x1664.Idx → EReal) (u : S8x1664.Idx → EReal) (x0 : Vec Ideal S512x1664 .f32) (x1 x2 x3 : Vec Ideal S8x1664 .f32)
    (h0 : ∀ j, x0 j = x ((win0_3.blk t).view.emb j)) (h1 : ∀ j, x1 j = x ((win0_4.blk t).view.emb j)) (h2 : ∀ j, x2 j = x ((win0_5.blk t).view.emb j))
    (h3 : ∀ j, x3 j = u ((win0_6.blk t).view.emb j)) (a : Fin 512) (l : Fin 1664) :
    k0_pay9 (F := Ideal) x0 x2 (iota .tc S512x1 32 [0] iota_S512x1_d0_w32) (k0_pay5 (F := Ideal) (grid0.coords t)) (k0_pay6 (F := Ideal) (grid0.coords t))
      k0_pay7 (k0_pay8 x1) (View.ld x3 row2) (View.ld x3 row1) (View.ld x3 row0) (ix2 a l)
      = sh x (fun l => u (ix2 2 l)) (fun l => u (ix2 1 l)) (fun l => u (ix2 0 l)) (ix2 ⟨512 * t + a, by have := lt8 t; omega⟩ l) := by
  rw [pay9_at, pay5_at, pay6_at, h1, h2, h0, h0, h0, before_at, after_at, ldT0, ldT1, ldT2, h3, h3, h3, emb0, emb3, emb3, emb3]
  rfl

theorem blk0 (t : Fin cfg0.N) (j) : (show EReal from iblk m c 3 t j) = m ((c.tc : Thread nD τ).loc main_arg1) ((win0_3.blk t).view.emb j) := by
  blk_simp [iblk]

theorem blk1 (t : Fin cfg0.N) (j) : (show EReal from iblk m c 4 t j) = m ((c.tc : Thread nD τ).loc main_arg1) ((win0_4.blk t).view.emb j) := by
  blk_simp [iblk]

theorem blk2 (t : Fin cfg0.N) (j) : (show EReal from iblk m c 5 t j) = m ((c.tc : Thread nD τ).loc main_arg1) ((win0_5.blk t).view.emb j) := by
  blk_simp [iblk]

theorem blk3 (t : Fin cfg0.N) (j) : (show EReal from iblk m c 6 t j) = m ((c.tc : Thread nD τ).loc main_arg2) ((win0_6.blk t).view.emb j) := by
  blk_simp [iblk]

/-- What the call leaves for the input's gradient. -/
theorem arr7 : (dats m 0 c).arrAt 7 cfg0.N = sh (m ((c.tc : Thread nD τ).loc main_arg1)) (fun l => m ((c.tc : Thread nD τ).loc main_arg2) (ix2 2 l))
    (fun l => m ((c.tc : Thread nD τ).loc main_arg2) (ix2 1 l)) (fun l => m ((c.tc : Thread nD τ).loc main_arg2) (ix2 0 l)) := by
  refine (dats m 0 c).arrAt_eq_of_covers 7 _ (by decide +kernel) fun t hf y => ?_
  rw [after0_7, out7]
  blk_simp
  obtain ⟨a, l, rfl⟩ : ∃ (a : Fin 512) (l : Fin 1664), y = ix2 a l := ⟨y 0, y 1, by ext i; fin_cases i <;> rfl⟩
  rw [emb4]
  generalize hw0 : iblk m c 3 t = w0
  generalize hw1 : iblk m c 4 t = w1
  generalize hw2 : iblk m c 5 t = w2
  generalize hw3 : iblk m c 6 t = w3
  exact pay9_sh t _ _ w0 w1 w2 w3 (fun j => hw0 ▸ blk0 m c t j) (fun j => hw1 ▸ blk1 m c t j) (fun j => hw2 ▸ blk2 m c t j) (fun j => hw3 ▸ blk3 m c t j) a l

end Cert.Kernel11Ideal.Value

namespace Cert.Reference11Ideal.Value

open Cert.Reference11Ideal Cert.Reference11Ideal.Gen
open Cert.Kernel10Ideal.Value (sh)

/-- The array the reference returns. -/
def shR (d : FVec Ideal S4096x1664 .f32) (u : FVec Ideal S8x1664 .f32) : FVec Ideal S4096x1664 .f32 :=
  shapeCast _ (extractStridedSlice S2x2048x1664 ![0, 1, 0] (addf (addf (pad S2x2050x1664 ![0, 2, 0] ![0, 0, 0] ![0, 0, 0] (mulf (broadcastInDim S2x2048x1664 ![0, 1, 2] bcast_S1x1x1664_S2x2048x1664_0_1_2 (broadcastInDim S1x1x1664 ![2] bcast_S1664_S1x1x1664_2 (shapeCast _ (extractStridedSlice S1x1664 ![2, 0] u slices_S8x1664_S1x1664_2_0) shapeCasts_S1x1664_S1664))) (shapeCast _ d shapeCasts_S4096x1664_S2x2048x1664)) (constant S_ .f32 0x00000000#32) pads_S2x2048x1664_S2x2050x1664_000_200_000 h_S_) (pad S2x2050x1664 ![0, 1, 0] ![0, 1, 0] ![0, 0, 0] (mulf (broadcastInDim S2x2048x1664 ![0, 1, 2] bcast_S1x1x1664_S2x2048x1664_0_1_2 (broadcastInDim S1x1x1664 ![2] bcast_S1664_S1x1x1664_2 (shapeCast _ (extractStridedSlice S1x1664 ![1, 0] u slices_S8x1664_S1x1664_1_0) shapeCasts_S1x1664_S1664))) (shapeCast _ d shapeCasts_S4096x1664_S2x2048x1664)) (constant S_ .f32 0x00000000#32) pads_S2x2048x1664_S2x2050x1664_000_110_000 h_S_)) (pad S2x2050x1664 ![0, 0, 0] ![0, 2, 0] ![0, 0, 0] (mulf (broadcastInDim S2x2048x1664 ![0, 1, 2] bcast_S1x1x1664_S2x2048x1664_0_1_2 (broadcastInDim S1x1x1664 ![2] bcast_S1664_S1x1x1664_2 (shapeCast _ (extractStridedSlice S1x1664 ![0, 0] u slices_S8x1664_S1x1664_0_0) shapeCasts_S1x1664_S1664))) (shapeCast _ d shapeCasts_S4096x1664_S2x2048x1664)) (constant S_ .f32 0x00000000#32) pads_S2x2048x1664_S2x2050x1664_000_020_000 h_S_)) slices_S2x2050x1664_S2x2048x1664_0_1_0) shapeCasts_S2x2048x1664_S4096x1664

set_option maxHeartbeats 1600000 in
theorem shR_at (d : FVec Ideal S4096x1664 .f32) (u : FVec Ideal S8x1664 .f32) (r : Fin 4096) (l : Fin 1664) :
    shR d u (ix2 r l) = sh d (fun l => u (ix2 2 l)) (fun l => u (ix2 1 l)) (fun l => u (ix2 0 l)) (ix2 r l) := by
  have hr := r.isLt
  pointwise [shR, sh]
  have eA : (if h : (r : ℕ) / 2048 < 2 ∧ 2 ≤ 1 + (r : ℕ) % 2048 ∧ 1 + (r : ℕ) % 2048 - 2 < 2048 then
      u (ix2 2 l) * d (ix2 ⟨(r : ℕ) / 2048 * 2048 + (1 + (r : ℕ) % 2048 - 2), by omega⟩ l) else 0)
      = u (ix2 2 l) * (if h : (r : ℕ) % 2048 = 0 then 0 else d (ix2 ⟨(r : ℕ) - 1, by omega⟩ l)) := by
    by_cases h : (r : ℕ) % 2048 = 0
    · have h' : ¬ ((r : ℕ) / 2048 < 2 ∧ 2 ≤ 1 + (r : ℕ) % 2048 ∧ 1 + (r : ℕ) % 2048 - 2 < 2048) := by omega
      exact (dif_neg h').trans ((congrArg (fun z => u (ix2 2 l) * z) (dif_pos h)).trans (mul_zero _)).symm
    · have h' : (r : ℕ) / 2048 < 2 ∧ 2 ≤ 1 + (r : ℕ) % 2048 ∧ 1 + (r : ℕ) % 2048 - 2 < 2048 := by omega
      have e : (⟨(r : ℕ) / 2048 * 2048 + (1 + (r : ℕ) % 2048 - 2), by omega⟩ : Fin 4096) = ⟨(r : ℕ) - 1, by omega⟩ := Fin.ext (by simp only; omega)
      refine (dif_pos h').trans ((congrArg (fun z => u (ix2 2 l) * d (ix2 z l)) e).trans ?_)
      rw [dif_neg h]
  have eB : (if h : (r : ℕ) / 2048 < 2 ∧ (r : ℕ) % 2048 < 2048 then u (ix2 1 l) * d (ix2 r l) else 0) = u (ix2 1 l) * d (ix2 r l) := by
    have h' : (r : ℕ) / 2048 < 2 ∧ (r : ℕ) % 2048 < 2048 := by omega
    exact dif_pos h'
  have eC : (if h : (r : ℕ) / 2048 < 2 ∧ 1 + (r : ℕ) % 2048 < 2048 then
      u (ix2 0 l) * d (ix2 ⟨(r : ℕ) / 2048 * 2048 + (1 + (r : ℕ) % 2048), by omega⟩ l) else 0)
      = u (ix2 0 l) * (if h : (r : ℕ) % 2048 = 2047 then 0 else d (ix2 ⟨(r : ℕ) + 1, by omega⟩ l)) := by
    by_cases h : (r : ℕ) % 2048 = 2047
    · have h' : ¬ ((r : ℕ) / 2048 < 2 ∧ 1 + (r : ℕ) % 2048 < 2048) := by omega
      exact (dif_neg h').trans ((congrArg (fun z => u (ix2 0 l) * z) (dif_pos h)).trans (mul_zero _)).symm
    · have h' : (r : ℕ) / 2048 < 2 ∧ 1 + (r : ℕ) % 2048 < 2048 := by omega
      have e : (⟨(r : ℕ) / 2048 * 2048 + (1 + (r : ℕ) % 2048), by omega⟩ : Fin 4096) = ⟨(r : ℕ) + 1, by omega⟩ := Fin.ext (by simp only; omega)
      refine (dif_pos h').trans ((congrArg (fun z => u (ix2 0 l) * d (ix2 z l)) e).trans ?_)
      rw [dif_neg h]
  rw [eA, eB, eC]

theorem shR_eq (d : FVec Ideal S4096x1664 .f32) (u : FVec Ideal S8x1664 .f32) :
    shR d u = sh d (fun l => u (ix2 2 l)) (fun l => u (ix2 1 l)) (fun l => u (ix2 0 l)) := by
  funext y
  obtain ⟨a, b, rfl⟩ : ∃ (a : Fin 4096) (b : Fin 1664), y = ix2 a b := ⟨y 0, y 1, by ext i; fin_cases i <;> rfl⟩
  exact shR_at d u a b

theorem staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v41) = shR (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (run m g)

end Cert.Reference11Ideal.Value

end
-- ==== Proof.ShiftEq.lean ====
/-
  The token shift and its gradient to the input: the programs' results are the same arrays.
-/
module

public import proofs.«01_k».proof.Defs
public import proofs.«01_k».proof.Proof.ShiftB
public import Idealize.ShloMosaic.Lib.Claim

@[expose] public section

set_option maxRecDepth 16384

noncomputable section

open Idealize.ShloMosaic Idealize.ShloMosaic.TcCoe Idealize.SL.Sem

namespace Cert.Proof

theorem eq_shift (m : (ℓ : Loc Cert.Kernel10Ideal.nD Cert.Kernel10Ideal.τ Cert.Kernel10Ideal.sig) → Buf (Elt Ideal) ℓ) (c : Dev Cert.Kernel10Ideal.nD) :
    Cert.Reference10Ideal.Value.shR (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      = (Cert.Kernel10Ideal.Gen.dats m 0 c).arrAt 4 Cert.Kernel10Ideal.cfg0.N :=
  (Cert.Reference10Ideal.Value.shR_eq _ _).trans (Cert.Kernel10Ideal.Value.arr4 m c).symm

set_option maxHeartbeats 1600000 in
theorem algebraic_shift : Cert.algebraic_Kernel10Ideal_Reference10Ideal := by
  pair_intro
  · run_from Cert.Kernel10Ideal.Value.run_blocks m g
  · run_from Cert.Reference10Ideal.Value.staged m' g'
    exact eq_shift m c

theorem frame_reference_shift : Cert.quiescent_Reference10Ideal := by
  intro m g _
  hlo_run
  · exact fun _ => ⟨trivial, trivial⟩
  exact Idealize.ShloMosaic.sem_eq_zero_of_no_sems (sig := Cert.Reference10Ideal.sig) (by decide) _

theorem eq_shift_back (m : (ℓ : Loc Cert.Kernel11Ideal.nD Cert.Kernel11Ideal.τ Cert.Kernel11Ideal.sig) → Buf (Elt Ideal) ℓ) (c : Dev Cert.Kernel11Ideal.nD) :
    Cert.Reference11Ideal.Value.shR (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2))
      = (Cert.Kernel11Ideal.Gen.dats m 0 c).arrAt 7 Cert.Kernel11Ideal.cfg0.N :=
  (Cert.Reference11Ideal.Value.shR_eq _ _).trans (Cert.Kernel11Ideal.Value.arr7 m c).symm

set_option maxHeartbeats 1600000 in
theorem algebraic_shift_back : Cert.algebraic_Kernel11Ideal_Reference11Ideal := by
  pair_intro
  · run_from Cert.Kernel11Ideal.Value.run_blocks m g
  · run_from Cert.Reference11Ideal.Value.staged m' g'
    exact eq_shift_back m c

theorem frame_reference_shift_back : Cert.quiescent_Reference11Ideal := by
  intro m g _
  hlo_run
  · exact fun _ => ⟨trivial, trivial, trivial⟩
  exact Idealize.ShloMosaic.sem_eq_zero_of_no_sems (sig := Cert.Reference11Ideal.sig) (by decide) _

end Cert.Proof

end
-- ==== Proof.lean ====
/-
  The claims about the eleven calls: the frames, and every result equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Adequacy
public import proofs.«01_k».proof.Proof.Gen.ReferenceIdeal.Run
public import Idealize.ShloMosaic.Init
public import proofs.«01_k».proof.Proof.Algebraic
public import proofs.«01_k».proof.Proof.Further
public import proofs.«01_k».proof.Proof.InEq
public import proofs.«01_k».proof.Proof.AdamEq
public import proofs.«01_k».proof.Proof.ShiftEq

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  facts_pre, facts_products,
  fun m ρ _ => Cert.Kernel.Gen.frame m ρ,
  fun m ρ _ => Cert.KernelIdeal.Gen.frame m ρ,
  fun m ρ _ => Cert.KernelIdeal.Gen.frame m ρ,
  frame_reference, frame_reference_pre,
  fun m ρ _ => Cert.Kernel2.Gen.frame m ρ,
  fun m ρ _ => Cert.Kernel2Ideal.Gen.frame m ρ,
  frame_reference_w,
  fun m ρ _ => Cert.Kernel3.Gen.frame m ρ,
  fun m ρ _ => Cert.Kernel3Ideal.Gen.frame m ρ,
  fun m ρ _ => Cert.Kernel3Ideal.Gen.frame m ρ,
  frame_reference_o, frame_reference_o_pre,
  fun m ρ _ => Cert.Kernel4.Gen.frame m ρ,
  fun m ρ _ => Cert.Kernel4Ideal.Gen.frame m ρ,
  frame_reference_h,
  fun m ρ _ => Cert.Kernel5.Gen.frame m ρ,
  fun m ρ _ => Cert.Kernel5Ideal.Gen.frame m ρ,
  frame_reference_adam_in,
  fun m ρ _ => Cert.Kernel6.Gen.frame m ρ,
  fun m ρ _ => Cert.Kernel6Ideal.Gen.frame m ρ,
  frame_reference_adam_out,
  fun m ρ _ => Cert.Kernel7.Gen.frame m ρ,
  fun m ρ _ => Cert.Kernel7Ideal.Gen.frame m ρ,
  frame_reference_adam_ada,
  fun m ρ _ => Cert.Kernel8.Gen.frame m ρ,
  fun m ρ _ => Cert.Kernel8Ideal.Gen.frame m ρ,
  frame_reference_grad_ada,
  fun m ρ _ => Cert.Kernel9.Gen.frame m ρ,
  fun m ρ _ => Cert.Kernel9Ideal.Gen.frame m ρ,
  frame_reference_mod,
  fun m ρ _ => Cert.Kernel10.Gen.frame m ρ,
  fun m ρ _ => Cert.Kernel10Ideal.Gen.frame m ρ,
  frame_reference_shift,
  fun m ρ _ => Cert.Kernel11.Gen.frame m ρ,
  fun m ρ _ => Cert.Kernel11Ideal.Gen.frame m ρ,
  frame_reference_shift_back,
  trivial, algebraic, trivial, algebraic_w, trivial, algebraic_o, trivial, algebraic_h,
  trivial, algebraic_adam_in, trivial, algebraic_adam_out, trivial, algebraic_adam_ada, trivial, algebraic_grad_ada, trivial, algebraic_mod,
  trivial, algebraic_shift, trivial, algebraic_shift_back⟩

end Cert.Proof

end
